-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_below_top_KernelIdeal [hPre_below_top_KernelIdeal : Cert.Pre_below_top_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_below_top_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_below_top_ReferenceIdeal [hPre_below_top_ReferenceIdeal : Cert.Pre_below_top_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_below_top_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_below_top_KernelIdeal [hKernelIdeal : Cert.KernelIdeal.Facts] [hPre_below_top_KernelIdeal : Cert.Pre_below_top_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_below_top_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_below_top_ReferenceIdeal [hReferenceIdeal : Cert.ReferenceIdeal.Facts] [hPre_below_top_ReferenceIdeal : Cert.Pre_below_top_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_below_top_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_below_top_KernelIdeal [hKernelIdeal : Cert.KernelIdeal.Facts] [hReferenceIdeal : Cert.ReferenceIdeal.Facts] [hPre_below_top_KernelIdeal : Cert.Pre_below_top_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_below_top_KernelIdeal m →
    (∀ c : Dev Cert.KernelIdeal.nD,
      m ((c.tc : Thread Cert.KernelIdeal.nD Cert.KernelIdeal.τ).loc Cert.KernelIdeal.main_arg0) = Layout.block ⟨3, ![4, 256, 256]⟩ ⟨3, ![4, 4096, 256]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨3, ![4, 256, 16]⟩ ⟨3, ![4, 4096, 16]⟩ 1 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![4, 256, 16]⟩ ⟨3, ![4, 4096, 16]⟩ 1 16 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![4, 256, 256]⟩ ⟨3, ![4, 4096, 256]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v12) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_below_top_KernelIdeal : Cert.Pre_below_top_KernelIdeal.Facts) (hPre_below_top_ReferenceIdeal : Cert.Pre_below_top_ReferenceIdeal.Facts),
    quiescent_Kernel (hKernel := hKernel)
    ∧ quiescent_KernelIdeal (hKernelIdeal := hKernelIdeal)
    ∧ quiescent_KernelIdeal_pre_below_top_KernelIdeal (hKernelIdeal := hKernelIdeal) (hPre_below_top_KernelIdeal := hPre_below_top_KernelIdeal)
    ∧ quiescent_ReferenceIdeal (hReferenceIdeal := hReferenceIdeal)
    ∧ quiescent_ReferenceIdeal_pre_below_top_ReferenceIdeal (hReferenceIdeal := hReferenceIdeal) (hPre_below_top_ReferenceIdeal := hPre_below_top_ReferenceIdeal)
    ∧ preserves_Kernel_KernelIdeal
    ∧ algebraic_KernelIdeal_ReferenceIdeal_pre_below_top_KernelIdeal (hKernelIdeal := hKernelIdeal) (hReferenceIdeal := hReferenceIdeal) (hPre_below_top_KernelIdeal := hPre_below_top_KernelIdeal)
-- ==== Pre_below_top_KernelIdeal.lean ====
abbrev S4x256x256 : Shape := ⟨3, ![4, 256, 256]⟩
abbrev S256x16 : Shape := ⟨2, ![256, 16]⟩
abbrev S4x256x16 : Shape := ⟨3, ![4, 256, 16]⟩
abbrev S_ : Shape := ⟨0, ![]⟩

class Facts : Prop where
  bitsLt_bf16_f32 : FTy.bits .bf16 < FTy.bits .f32
  bcast_S_S256x16 : S_.BroadcastsInDim S256x16 (![] : Fin 0 → Fin S256x16.rank)
  reducesTo_S256x16_S_d0_1 : S256x16.ReducesTo [0, 1] S_
  h_S_ : 0 < S_.numel

variable [Facts]

def fn {F : FTy → Type} [FloatOps F] (main_arg0 : FVec F S4x256x256 .bf16) (main_arg1 : FVec F S256x16 .bf16) (main_arg2 : FVec F S4x256x16 .bf16) (main_arg3 : FVec F S4x256x16 .bf16) : IVec S_ 1 :=
  let main_v0 : FVec F S256x16 .f32 := (extf .f32 · bitsLt_bf16_f32) main_arg1
  let main_cst : FVec F S_ .f32 := constant S_ .f32 0x7F800000#32
  let main_v1 : FVec F S256x16 .f32 := broadcastInDim S256x16 ![] bcast_S_S256x16 main_cst
  let main_v2 : IVec S256x16 1 := cmpf .olt main_v0 main_v1
  let main_c : IVec S_ 1 := constantI S_ 1 1#1
  let main_v3 : IVec S_ 1 := (fun x v => Host.reduce IntOp.andi x v reducesTo_S256x16_S_d0_1 h_S_) main_v2 main_c
  main_v3
-- ==== Pre_below_top_ReferenceIdeal.lean ====
abbrev S4x4096x256 : Shape := ⟨3, ![4, 4096, 256]⟩
abbrev S256x16 : Shape := ⟨2, ![256, 16]⟩
abbrev S4x4096x16 : Shape := ⟨3, ![4, 4096, 16]⟩
abbrev S_ : Shape := ⟨0, ![]⟩

class Facts : Prop where
  bitsLt_bf16_f32 : FTy.bits .bf16 < FTy.bits .f32
  bcast_S_S256x16 : S_.BroadcastsInDim S256x16 (![] : Fin 0 → Fin S256x16.rank)
  reducesTo_S256x16_S_d0_1 : S256x16.ReducesTo [0, 1] S_
  h_S_ : 0 < S_.numel

variable [Facts]

def fn {F : FTy → Type} [FloatOps F] (main_arg0 : FVec F S4x4096x256 .bf16) (main_arg1 : FVec F S256x16 .bf16) (main_arg2 : FVec F S4x4096x16 .bf16) (main_arg3 : FVec F S4x4096x16 .bf16) : IVec S_ 1 :=
  let main_v0 : FVec F S256x16 .f32 := (extf .f32 · bitsLt_bf16_f32) main_arg1
  let main_cst : FVec F S_ .f32 := constant S_ .f32 0x7F800000#32
  let main_v1 : FVec F S256x16 .f32 := broadcastInDim S256x16 ![] bcast_S_S256x16 main_cst
  let main_v2 : IVec S256x16 1 := cmpf .olt main_v0 main_v1
  let main_c : IVec S_ 1 := constantI S_ 1 1#1
  let main_v3 : IVec S_ 1 := (fun x v => Host.reduce IntOp.andi x v reducesTo_S256x16_S_d0_1 h_S_) main_v2 main_c
  main_v3
-- ==== Kernel.lean ====
abbrev S4x256x256 : Shape := ⟨3, ![4, 256, 256]⟩
abbrev S256x16 : Shape := ⟨2, ![256, 16]⟩
abbrev S4x256x16 : Shape := ⟨3, ![4, 256, 16]⟩
abbrev S2x4x16x256 : Shape := ⟨4, ![2, 4, 16, 256]⟩
abbrev S_ : Shape := ⟨0, ![]⟩
abbrev S16x256 : Shape := ⟨2, ![16, 256]⟩
abbrev S256x4x256 : Shape := ⟨3, ![256, 4, 256]⟩
abbrev S256x4x1x256 : Shape := ⟨4, ![256, 4, 1, 256]⟩
abbrev S256x4x16 : Shape := ⟨3, ![256, 4, 16]⟩
abbrev S256x4x16x1 : Shape := ⟨4, ![256, 4, 16, 1]⟩
abbrev S256x4x16x256 : Shape := ⟨4, ![256, 4, 16, 256]⟩
abbrev S256x16x256 : Shape := ⟨3, ![256, 16, 256]⟩
abbrev S1x16x256 : Shape := ⟨3, ![1, 16, 256]⟩
abbrev S256x1x16x256 : Shape := ⟨4, ![256, 1, 16, 256]⟩
abbrev S4x16x256 : Shape := ⟨3, ![4, 16, 256]⟩
abbrev S1x4x16x256 : Shape := ⟨4, ![1, 4, 16, 256]⟩
abbrev S255x4x16x256 : Shape := ⟨4, ![255, 4, 16, 256]⟩
abbrev S1x1x16x256 : Shape := ⟨4, ![1, 1, 16, 256]⟩
abbrev S254x4x16x256 : Shape := ⟨4, ![254, 4, 16, 256]⟩
abbrev S4x4x16x256 : Shape := ⟨4, ![4, 4, 16, 256]⟩
abbrev S252x4x16x256 : Shape := ⟨4, ![252, 4, 16, 256]⟩
abbrev S8x4x16x256 : Shape := ⟨4, ![8, 4, 16, 256]⟩
abbrev S248x4x16x256 : Shape := ⟨4, ![248, 4, 16, 256]⟩
abbrev S16x4x16x256 : Shape := ⟨4, ![16, 4, 16, 256]⟩
abbrev S240x4x16x256 : Shape := ⟨4, ![240, 4, 16, 256]⟩
abbrev S32x4x16x256 : Shape := ⟨4, ![32, 4, 16, 256]⟩
abbrev S224x4x16x256 : Shape := ⟨4, ![224, 4, 16, 256]⟩
abbrev S64x4x16x256 : Shape := ⟨4, ![64, 4, 16, 256]⟩
abbrev S192x4x16x256 : Shape := ⟨4, ![192, 4, 16, 256]⟩
abbrev S128x4x16x256 : Shape := ⟨4, ![128, 4, 16, 256]⟩
abbrev S256x1x256 : Shape := ⟨3, ![256, 1, 256]⟩
abbrev S256x256 : Shape := ⟨2, ![256, 256]⟩
abbrev S1x256x256 : Shape := ⟨3, ![1, 256, 256]⟩

abbrev nBuf : Space → Nat
  | .hbm => 5
  | .vmem => 6
  | .smem => 0
  | _ => 0

abbrev bufTy : (tb : Table) → Fin (tcTables nBuf tb) → BufTy
  | .hbm, ⟨0, _⟩ => ⟨S4x256x256, .bf16⟩
  | .hbm, ⟨1, _⟩ => ⟨S256x16, .bf16⟩
  | .hbm, ⟨2, _⟩ => ⟨S4x256x16, .bf16⟩
  | .hbm, ⟨3, _⟩ => ⟨S4x256x16, .bf16⟩
  | .hbm, ⟨4, _⟩ => ⟨S4x256x256, .f32⟩
  | .local _ .vmem, ⟨0, _⟩ => ⟨S4x256x256, .bf16⟩
  | .local _ .vmem, ⟨1, _⟩ => ⟨S256x16, .bf16⟩
  | .local _ .vmem, ⟨2, _⟩ => ⟨S4x256x16, .bf16⟩
  | .local _ .vmem, ⟨3, _⟩ => ⟨S4x256x16, .bf16⟩
  | .local _ .vmem, ⟨4, _⟩ => ⟨S4x256x256, .f32⟩
  | .local _ .vmem, ⟨5, _⟩ => ⟨S2x4x16x256, .f32⟩
  | _, _ => ⟨S4x256x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 2 → Bool
  | ⟨0, _⟩ => false
  | ⟨1, _⟩ => true
  | _ => false

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  (ofTc nBuf bufTy 2 7 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8 : BitVec 32 := 1#32
  let v11 : BitVec 32 := Scalar.muli v7 c1_i32_8
  let v12 : BitVec 32 := Scalar.addi c0_i32_9 v11
  v12.toNat
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v54 : BitVec 1 := Scalar.cmpi .slt v2 c15_i32
  let v55 : BitVec 32 := Scalar.extui v54
  let c0_i32_30 : BitVec 32 := 0#32
  let v56 : BitVec 1 := Scalar.cmpi .ne v55 c0_i32_30
  v56

def k0_dev3 (d0 : Dev nD) : Nat :=
  let c0_i32_65 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_64 : BitVec 32 := 1#32
  let v192 : BitVec 32 := Scalar.muli v7 c1_i32_64
  let v193 : BitVec 32 := Scalar.addi c0_i32_65 v192
  v193.toNat
def k0_dev4 (d0 : Dev nD) : Nat :=
  let c0_i32_60_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_59_r0 : BitVec 32 := 1#32
  let v185_r0 : BitVec 32 := Scalar.muli v5 c1_i32_59_r0
  let v186_r0 : BitVec 32 := Scalar.addi c0_i32_60_r0 v185_r0
  v186_r0.toNat
def k0_dev5 (d0 : Dev nD) : Nat :=
  let c0_i32_63_r0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_62_r0 : BitVec 32 := 1#32
  let v187_r0 : BitVec 32 := Scalar.muli v7 c1_i32_62_r0
  let v188_r0 : BitVec 32 := Scalar.addi c0_i32_63_r0 v187_r0
  v188_r0.toNat
abbrev stage0_0 : Fin 1 → Memref sig .tc .vmem S4x256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x16 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x256x16 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x256x16 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4x4096x256 : Shape := ⟨3, ![4, 4096, 256]⟩
abbrev S256x16 : Shape := ⟨2, ![256, 16]⟩
abbrev S4x4096x16 : Shape := ⟨3, ![4, 4096, 16]⟩
abbrev S1x256x16 : Shape := ⟨3, ![1, 256, 16]⟩
abbrev S4096x4x256 : Shape := ⟨3, ![4096, 4, 256]⟩
abbrev S4096x4x16 : Shape := ⟨3, ![4096, 4, 16]⟩
abbrev S_ : Shape := ⟨0, ![]⟩
abbrev S4x256x16 : Shape := ⟨3, ![4, 256, 16]⟩
abbrev S1x4x256 : Shape := ⟨3, ![1, 4, 256]⟩
abbrev S4x256 : Shape := ⟨2, ![4, 256]⟩
abbrev S1x4x16 : Shape := ⟨3, ![1, 4, 16]⟩
abbrev S4x16 : Shape := ⟨2, ![4, 16]⟩
abbrev S4x256x1 : Shape := ⟨3, ![4, 256, 1]⟩
abbrev S4x1x16 : Shape := ⟨3, ![4, 1, 16]⟩

abbrev nBuf : Space → Nat
  | .hbm => 59
  | .vmem => 0
  | .smem => 0
  | _ => 0

abbrev bufTy : (tb : Table) → Fin (tcTables nBuf tb) → BufTy
  | .hbm, ⟨0, _⟩ => ⟨S4x4096x256, .bf16⟩
  | .hbm, ⟨1, _⟩ => ⟨S256x16, .bf16⟩
  | .hbm, ⟨2, _⟩ => ⟨S4x4096x16, .bf16⟩
  | .hbm, ⟨3, _⟩ => ⟨S4x4096x16, .bf16⟩
  | .hbm, ⟨4, _⟩ => ⟨S4x4096x256, .f32⟩
  | .hbm, ⟨5, _⟩ => ⟨S256x16, .f32⟩
  | .hbm, ⟨6, _⟩ => ⟨S4x4096x16, .f32⟩
  | .hbm, ⟨7, _⟩ => ⟨S4x4096x16, .f32⟩
  | .hbm, ⟨8, _⟩ => ⟨S256x16, .f32⟩
  | .hbm, ⟨9, _⟩ => ⟨S1x256x16, .f32⟩
  | .hbm, ⟨10, _⟩ => ⟨S4096x4x256, .f32⟩
  | .hbm, ⟨11, _⟩ => ⟨S4096x4x16, .f32⟩
  | .hbm, ⟨12, _⟩ => ⟨S4096x4x16, .f32⟩
  | .hbm, ⟨13, _⟩ => ⟨S_, .f32⟩
  | .hbm, ⟨14, _⟩ => ⟨S4x256x16, .f32⟩
  | .hbm, ⟨15, _⟩ => ⟨S_, .f32⟩
  | .hbm, ⟨16, _⟩ => ⟨S4096x4x256, .f32⟩
  | .hbm, ⟨17, _⟩ => ⟨S_, .i32⟩
  | .hbm, ⟨18, _⟩ => ⟨S4096x4x256, .f32⟩
  | .hbm, ⟨19, _⟩ => ⟨S4096x4x16, .f32⟩
  | .hbm, ⟨20, _⟩ => ⟨S4096x4x16, .f32⟩
  | .hbm, ⟨21, _⟩ => ⟨S1x256x16, .f32⟩
  | .hbm, ⟨22, _⟩ => ⟨S_, .i32⟩
  | .hbm, ⟨23, _⟩ => ⟨S4x256x16, .f32⟩
  | .hbm, ⟨24, _⟩ => ⟨S4096x4x256, .f32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S1x4x256, .f32⟩
  | .hbm, ⟨30, _⟩ => ⟨S4x256, .f32⟩
  | .hbm, ⟨31, _⟩ => ⟨S_, .i32⟩
  | .hbm, ⟨32, _⟩ => ⟨S_, .i32⟩
  | .hbm, ⟨33, _⟩ => ⟨S1x4x16, .f32⟩
  | .hbm, ⟨34, _⟩ => ⟨S4x16, .f32⟩
  | .hbm, ⟨35, _⟩ => ⟨S_, .i32⟩
  | .hbm, ⟨36, _⟩ => ⟨S_, .i32⟩
  | .hbm, ⟨37, _⟩ => ⟨S1x4x16, .f32⟩
  | .hbm, ⟨38, _⟩ => ⟨S4x16, .f32⟩
  | .hbm, ⟨39, _⟩ => ⟨S4x256x16, .f32⟩
  | .hbm, ⟨40, _⟩ => ⟨S4x256x16, .f32⟩
  | .hbm, ⟨41, _⟩ => ⟨S4x256x1, .f32⟩
  | .hbm, ⟨42, _⟩ => ⟨S4x1x16, .f32⟩
  | .hbm, ⟨43, _⟩ => ⟨S4x256x16, .f32⟩
  | .hbm, ⟨44, _⟩ => ⟨S4x256x16, .f32⟩
  | .hbm, ⟨45, _⟩ => ⟨S4x256x16, .f32⟩
  | .hbm, ⟨46, _⟩ => ⟨S4x256x16, .f32⟩
  | .hbm, ⟨47, _⟩ => ⟨S4x1x16, .f32⟩
  | .hbm, ⟨48, _⟩ => ⟨S4x256x16, .f32⟩
  | .hbm, ⟨49, _⟩ => ⟨S4x256x16, .f32⟩
  | .hbm, ⟨50, _⟩ => ⟨S_, .f32⟩
  | .hbm, ⟨51, _⟩ => ⟨S4x256, .f32⟩
  | .hbm, ⟨52, _⟩ => ⟨S1x4x256, .f32⟩
  | .hbm, ⟨53, _⟩ => ⟨S_, .i32⟩
  | .hbm, ⟨54, _⟩ => ⟨S_, .i32⟩
  | .hbm, ⟨55, _⟩ => ⟨S4096x4x256, .f32⟩
  | .hbm, ⟨56, _⟩ => ⟨S_, .i32⟩
  | .hbm, ⟨57, _⟩ => ⟨S_, .i32⟩
  | .hbm, ⟨58, _⟩ => ⟨S4x4096x256, .f32⟩
  | _, _ => ⟨S4x4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_c : Ref sig .tc := ⟨.hbm, 17, rfl⟩
abbrev main_v11_0 : Ref sig .tc := ⟨.hbm, 18, rfl⟩
abbrev main_v11_1 : Ref sig .tc := ⟨.hbm, 19, rfl⟩
abbrev main_v11_2 : Ref sig .tc := ⟨.hbm, 20, rfl⟩
abbrev main_v11_3 : Ref sig .tc := ⟨.hbm, 21, rfl⟩
abbrev main_v11_4 : Ref sig .tc := ⟨.hbm, 22, rfl⟩
abbrev main_v11_5 : Ref sig .tc := ⟨.hbm, 23, rfl⟩
abbrev main_v11_6 : Ref sig .tc := ⟨.hbm, 24, rfl⟩
abbrev main_while0c_c_7 : Ref sig .tc := ⟨.hbm, 25, rfl⟩
abbrev main_while0c_v13 : Ref sig .tc := ⟨.hbm, 26, rfl⟩
abbrev main_while0b_call0_c : Ref sig .tc := ⟨.hbm, 27, rfl⟩
abbrev main_while0b_call0_c_0 : Ref sig .tc := ⟨.hbm, 28, rfl⟩
abbrev main_while0b_call0_v0 : Ref sig .tc := ⟨.hbm, 29, rfl⟩
abbrev main_while0b_v13 : Ref sig .tc := ⟨.hbm, 30, rfl⟩
abbrev main_while0b_call1_c : Ref sig .tc := ⟨.hbm, 31, rfl⟩
abbrev main_while0b_call1_c_0 : Ref sig .tc := ⟨.hbm, 32, rfl⟩
abbrev main_while0b_call1_v0 : Ref sig .tc := ⟨.hbm, 33, rfl⟩
abbrev main_while0b_v14 : Ref sig .tc := ⟨.hbm, 34, rfl⟩
abbrev main_while0b_call2_c : Ref sig .tc := ⟨.hbm, 35, rfl⟩
abbrev main_while0b_call2_c_0 : Ref sig .tc := ⟨.hbm, 36, rfl⟩
abbrev main_while0b_call2_v0 : Ref sig .tc := ⟨.hbm, 37, rfl⟩
abbrev main_while0b_v15 : Ref sig .tc := ⟨.hbm, 38, rfl⟩
abbrev main_while0b_v16 : Ref sig .tc := ⟨.hbm, 39, rfl⟩
abbrev main_while0b_v17 : Ref sig .tc := ⟨.hbm, 40, rfl⟩
abbrev main_while0b_v18 : Ref sig .tc := ⟨.hbm, 41, rfl⟩
abbrev main_while0b_v19 : Ref sig .tc := ⟨.hbm, 42, rfl⟩
abbrev main_while0b_v20 : Ref sig .tc := ⟨.hbm, 43, rfl⟩
abbrev main_while0b_v21 : Ref sig .tc := ⟨.hbm, 44, rfl⟩
abbrev main_while0b_v22 : Ref sig .tc := ⟨.hbm, 45, rfl⟩
abbrev main_while0b_v23 : Ref sig .tc := ⟨.hbm, 46, rfl⟩
abbrev main_while0b_v24 : Ref sig .tc := ⟨.hbm, 47, rfl⟩
abbrev main_while0b_v25 : Ref sig .tc := ⟨.hbm, 48, rfl⟩
abbrev main_while0b_v26 : Ref sig .tc := ⟨.hbm, 49, rfl⟩
abbrev main_while0b_cst_7 : Ref sig .tc := ⟨.hbm, 50, rfl⟩
abbrev main_while0b_v27 : Ref sig .tc := ⟨.hbm, 51, rfl⟩
abbrev main_while0b_call3_v0 : Ref sig .tc := ⟨.hbm, 52, rfl⟩
abbrev main_while0b_call3_c : Ref sig .tc := ⟨.hbm, 53, rfl⟩
abbrev main_while0b_call3_c_0 : Ref sig .tc := ⟨.hbm, 54, rfl⟩
abbrev main_while0b_v28 : Ref sig .tc := ⟨.hbm, 55, rfl⟩
abbrev main_while0b_c_8 : Ref sig .tc := ⟨.hbm, 56, rfl⟩
abbrev main_while0b_v29 : Ref sig .tc := ⟨.hbm, 57, rfl⟩
abbrev main_v12 : Ref sig .tc := ⟨.hbm, 58, rfl⟩

abbrev nD : Nat := 1
abbrev τ : Topo := Topo.v7x

variable {F : FTy → Type} [FloatOps F]

abbrev main_while0_count : Scf.Loop 32 := ⟨0#32, 4096#32, 1#32⟩
-- ==== Proof.KernelIdeal.Cells.lean ====
/-
The chain of sixteen devices, as a protocol over semaphore cells.

Device `c` hands its neighbours a ready unit on the barrier semaphore, receives the scan state that enters its
stretch of the sequence from device `c - 1` into slot 0 of the scratch (device 0 fills that slot with zeros), makes
the state that leaves its stretch in slot 1, sends it to slot 0 of device `c + 1` (device 15 sends nothing), and at
the end exchanges a unit with both neighbours on a second semaphore.

This module says what each cell's one round carries, what each device owes when the kernel starts, and why
no wait of the kernel can be part of a circle of waits.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.ValueKit
public import Idealize.ShloMosaic.Lib.Tactic

@[expose] public section

noncomputable section

namespace Cert.KernelIdeal.Chain

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resources: the pipeline's own, and the rounds of the chain's cells, whose duties are told apart by a `Bool`. -/
abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Neighbours -/

set_option backward.proofsInPublic true in
/-- The device after `c`, and the one before it, around the circle of sixteen. -/
def nxt (c : Dev nD) : Dev nD := ⟨(c.val + 1) % 16, Nat.mod_lt _ (by decide)⟩
set_option backward.proofsInPublic true in
def prv (c : Dev nD) : Dev nD := ⟨(c.val + 15) % 16, Nat.mod_lt _ (by decide)⟩

theorem prv_nxt (c : Dev nD) : prv (nxt c) = c := by revert c; decide
theorem nxt_prv (c : Dev nD) : nxt (prv c) = c := by revert c; decide

/-- The circle, as a permutation of the devices. -/
def circle : Dev nD ≃ Dev nD := ⟨nxt, prv, prv_nxt, nxt_prv⟩

theorem dev1_eq (c : Dev nD) : (⟨k0_dev1 c, k0_dev1_lt c⟩ : Dev nD) = prv c := Fin.ext (k0_dev1_eq c)
theorem dev2_eq (c : Dev nD) : (⟨k0_dev2 c, k0_dev2_lt c⟩ : Dev nD) = nxt c := Fin.ext (k0_dev2_eq c)
theorem dev3_eq (c : Dev nD) (h : k0_cond3 c = 1#1) : (⟨k0_dev3 c, k0_dev3_lt c h⟩ : Dev nD) = nxt c := Fin.ext (k0_dev3_eq c)
theorem dev4_eq (c : Dev nD) : (⟨k0_dev4 c, k0_dev4_lt c⟩ : Dev nD) = prv c := Fin.ext (k0_dev4_eq c)
theorem dev5_eq (c : Dev nD) : (⟨k0_dev5 c, k0_dev5_lt c⟩ : Dev nD) = nxt c := Fin.ext (k0_dev5_eq c)

/-! ## The scratch's two slots -/

abbrev scM : Memref sig .tc .vmem S2x4x16x256 .f32 := Memref.whole cc0_scratch0

abbrev rect0 : Rect S2x4x16x256 := Rect.unit (s := S2x4x16x256) ![0, 0, 0, 0] S1x4x16x256.size inb_S2x4x16x256_S1x4x16x256_0_0_0_0
abbrev rect1 : Rect S2x4x16x256 := Rect.unit (s := S2x4x16x256) ![1, 0, 0, 0] S1x4x16x256.size inb_S2x4x16x256_S1x4x16x256_1_0_0_0

/-- Slot 0, where a state arrives, and slot 1, which a state leaves from: as loads and stores see them, -/
abbrev slot0 : View sig .tc .vmem S1x4x16x256 .f32 := scM.access rect0
abbrev slot1 : View sig .tc .vmem S1x4x16x256 .f32 := scM.access rect1
/-- and as the transfer sees them. -/
abbrev slot0M : Memref sig .tc .vmem S4x16x256 .f32 := (scM.slice rect0 (fun _ => rfl)).squeeze S4x16x256 squeezes_S1x4x16x256_S4x16x256
abbrev slot1M : Memref sig .tc .vmem S4x16x256 .f32 := (scM.slice rect1 (fun _ => rfl)).squeeze S4x16x256 squeezes_S1x4x16x256_S4x16x256

theorem mem_slot0 (i : S2x4x16x256.Idx) : i ∈ slot0.set ↔ (i 0 : Nat) = 0 := by
  refine ValueKit.mem_set_slice_whole_iff cc0_scratch0 rect0 i ?_
  rw [Rect.mem_set_unit]
  constructor
  · intro h; have := (h 0).2; simpa using this
  · intro h a
    have ha := (i a).isLt
    fin_cases a
    · exact ⟨Nat.zero_le _, by show (i 0 : Nat) < 0 + 1; omega⟩
    · exact ⟨Nat.zero_le _, by simpa using ha⟩
    · exact ⟨Nat.zero_le _, by simpa using ha⟩
    · exact ⟨Nat.zero_le _, by simpa using ha⟩

theorem mem_slot1 (i : S2x4x16x256.Idx) : i ∈ slot1.set ↔ (i 0 : Nat) = 1 := by
  refine ValueKit.mem_set_slice_whole_iff cc0_scratch0 rect1 i ?_
  rw [Rect.mem_set_unit]
  have h0 : (i 0 : Nat) < 2 := (i 0).isLt
  constructor
  · intro h; have h1 : 1 ≤ (i 0 : Nat) := (h 0).1; omega
  · intro h a
    have ha := (i a).isLt
    fin_cases a
    · exact ⟨by show 1 ≤ (i 0 : Nat); omega, by show (i 0 : Nat) < 1 + 1; omega⟩
    · exact ⟨Nat.zero_le _, by simpa using ha⟩
    · exact ⟨Nat.zero_le _, by simpa using ha⟩
    · exact ⟨Nat.zero_le _, by simpa using ha⟩

theorem slots_disjoint : Disjoint slot0.set slot1.set :=
  Finset.disjoint_left.mpr fun i h h' => by have := (mem_slot0 i).mp h; have := (mem_slot1 i).mp h'; omega

theorem slots_cover : slot0.set ∪ slot1.set = (Finset.univ : Finset S2x4x16x256.Idx) := by
  ext i
  have h0 : (i 0 : Nat) < 2 := (i 0).isLt
  simp only [Finset.mem_union, Finset.mem_univ, iff_true]
  rw [mem_slot0 i, mem_slot1 i]; omega

/-- Device `c` owns a slot and reads `X` in it. -/
def held (v : View sig .tc .vmem S1x4x16x256 .f32) (c : Dev nD) (X : Vec F S1x4x16x256 .f32) : sProp 𝕄 :=
  iprop(∃ f, ⌜v.read (Elt F) f = X⌝ ∗ (v.loc (c : Thread nD τ) ↦[v.set]{fullShare} f))
/-- Device `c` owns a slot, whatever is in it. -/
def free (v : View sig .tc .vmem S1x4x16x256 .f32) (c : Dev nD) : sProp 𝕄 :=
  iprop(∃ f, v.loc (c : Thread nD τ) ↦[v.set]{fullShare} f)

instance held_storable (v c X) : BI.Storable (upEmb : UEmb _ 𝕄) (held (F := F) v c X) := by unfold held; infer_instance
instance free_storable (v c) : BI.Storable (upEmb : UEmb _ 𝕄) (free (F := F) v c) := by unfold free; infer_instance

theorem held_free (v c X) : held (F := F) v c X ⊢ free v c := by
  unfold held free; iintro ⟨%f, -, H⟩; iexists f; iexact H

/-- The scratch splits into its slots, and is made of them. -/
theorem scratch_split (c : Dev nD) (f : Buf (Elt F) ((c : Thread nD τ).loc cc0_scratch0)) :
    (((c : Thread nD τ).loc cc0_scratch0) ↦{fullShare} f : sProp 𝕄) ⊢ iprop(free slot0 c ∗ free slot1 c) := by
  unfold free
  rw [show (Finset.univ : Finset (Idx ((c : Thread nD τ).loc cc0_scratch0))) = slot0.set ∪ slot1.set from slots_cover.symm]
  iintro H
  ihave H' := (pointsTo_union slots_disjoint).1 $$ H
  icases H' with ⟨H0, H1⟩
  isplitl [H0]
  · iexists f; iexact H0
  · iexists f; iexact H1

theorem scratch_join (c : Dev nD) :
    iprop(free slot0 c ∗ free slot1 c) ⊢ (iprop(∃ f : Buf (Elt F) ((c : Thread nD τ).loc cc0_scratch0), ((c : Thread nD τ).loc cc0_scratch0) ↦{fullShare} f) : sProp 𝕄) := by
  unfold free
  iintro ⟨⟨%f, H0⟩, ⟨%g, H1⟩⟩
  iexists _
  rw [show (Finset.univ : Finset (Idx ((c : Thread nD τ).loc cc0_scratch0))) = slot0.set ∪ slot1.set from slots_cover.symm]
  iapply (pointsTo_join slots_disjoint)
  isplitl [H0]; · iexact H0
  iexact H1

theorem slot0M_set : slot0M.view.set = slot0.set := View.set_reshape _ _
theorem slot1M_set : slot1M.view.set = slot1.set := View.set_reshape _ _

/-- What the transfer leaves in slot 0 is what slot 1 held. -/
theorem slot0_landed (f g : (cc0_scratch0 : Ref sig .tc).ty.Contents (Elt F)) :
    slot0.read (Elt F) (slot0M.view.write (Elt F) f (slot1M.view.read (Elt F) g) Finset.univ) = slot1.read (Elt F) g := by
  have h := View.read_write_univ (Val := Elt F) (v := slot0M.view) f (slot1M.view.read (Elt F) g)
  funext i
  have e := congrFun h ((Shape.reshapeEquiv (Shape.Squeezes.numel_eq squeezes_S1x4x16x256_S4x16x256)).symm i)
  simpa [View.read_apply] using e

/-! ## The cells -/

/-- The barrier semaphore, which every kernel on the core shares, and the kernel's own three: the one the devices
    leave by, and the two of the transfer. -/
abbrev barS : Sem sig := (SemArray.scalar (sig.barrier 0 rfl) : Sems sig S_).sem
abbrev endS : Sem sig := (cc0_scoped0 : Sems sig S_).sem
abbrev sendS : DmaSem sig := (cc0_scratch1 : DmaSems sig S_).sem
abbrev recvS : DmaSem sig := (cc0_scratch2 : DmaSems sig S_).sem

abbrev barCell (c : Dev nD) : GSem nD τ sig := ((c : Thread nD τ), .reg barS)
abbrev endCell (c : Dev nD) : GSem nD τ sig := ((c : Thread nD τ), .reg endS)
abbrev sendCell (c : Dev nD) : GSem nD τ sig := ((c : Thread nD τ), .dma sendS)
abbrev recvCell (c : Dev nD) : GSem nD τ sig := ((c : Thread nD τ), .dma recvS)

/-- The kernel's own semaphores, and all four. -/
abbrev osem : Fin 3 → SemLoc sig := fun | 0 => .reg endS | 1 => .dma sendS | 2 => .dma recvS
abbrev csem : Fin 4 → SemLoc sig := fun | 0 => .reg barS | 1 => .reg endS | 2 => .dma sendS | 3 => .dma recvS
abbrev kcell (ck : Dev nD × Fin 4) : GSem nD τ sig := ((ck.1 : Thread nD τ), csem ck.2)

theorem end_ne_bar : (SemLoc.reg endS : SemLoc sig) ≠ .reg barS := by decide
theorem send_ne_bar : (SemLoc.dma sendS : SemLoc sig) ≠ .reg barS := fun h => by cases h
theorem recv_ne_bar : (SemLoc.dma recvS : SemLoc sig) ≠ .reg barS := fun h => by cases h
theorem send_ne_end : (SemLoc.dma sendS : SemLoc sig) ≠ .reg endS := fun h => by cases h
theorem recv_ne_end : (SemLoc.dma recvS : SemLoc sig) ≠ .reg endS := fun h => by cases h
theorem recv_ne_send : (SemLoc.dma recvS : SemLoc sig) ≠ .dma sendS := by decide

/-- What a transfer of one slot is worth to a DMA semaphore. -/
abbrev N : ℕ := slot0M.view.dmaCredit
theorem N_pos : 0 < N := View.dmaCredit_pos _ (by decide)

/-! ## Contents -/

variable (m : (ℓ : Loc nD τ sig) → Buf (Elt F) ℓ)

/-- A device's staged inputs. -/
def xIn (c : Dev nD) : Vec F S4x256x256 .bf16 := (win0_0.blk t0_0).view.read (Elt F) (m ((c : Thread nD τ).loc main_arg0))
def aIn (c : Dev nD) : Vec F S256x16 .bf16 := (win0_1.blk t0_0).view.read (Elt F) (m ((c : Thread nD τ).loc main_arg1))
def bIn (c : Dev nD) : Vec F S4x256x16 .bf16 := (win0_2.blk t0_0).view.read (Elt F) (m ((c : Thread nD τ).loc main_arg2))
def cIn (c : Dev nD) : Vec F S4x256x16 .bf16 := (win0_3.blk t0_0).view.read (Elt F) (m ((c : Thread nD τ).loc main_arg3))

/-- The transposed decay exponents, the output weights and the scan's inputs, as the kernel forms them. -/
def aT (c : Dev nD) : FVec F S16x256 .bf16 := k0_pay4 (aIn m c)
def wOut (c : Dev nD) : FVec F S4x256x16 .bf16 := k0_pay5 (cIn m c)
def inp (c : Dev nD) : FVec F S256x4x16x256 .f32 := k0_pay6 (xIn m c) (bIn m c)

set_option backward.proofsInPublic true in
/-- The device of a number. -/
def dev (k : ℕ) : Dev nD := ⟨k % 16, Nat.mod_lt _ (by decide)⟩
theorem dev_val (c : Dev nD) : dev c.val = c := Fin.ext (Nat.mod_eq_of_lt c.isLt)

/-- The state that enters the `k`-th stretch: zeros, then what the stretch before makes of its own. -/
def passed : ℕ → Vec F S1x4x16x256 .f32
  | 0 => k0_pay8
  | k + 1 => k0_pay10 (aT m (dev k)) (inp m (dev k)) (passed k)

/-- The state that enters device `c`'s stretch, and the one that leaves it. -/
def stateIn (c : Dev nD) : Vec F S1x4x16x256 .f32 := passed m c.val
def stateOut (c : Dev nD) : Vec F S1x4x16x256 .f32 := k0_pay10 (aT m c) (inp m c) (stateIn m c)

theorem stateIn_zero {c : Dev nD} (h : c.val = 0) : stateIn m c = k0_pay8 := by unfold stateIn; rw [h]; rfl
theorem stateIn_nxt {c : Dev nD} (h : c.val < 15) : stateIn m (nxt c) = stateOut m c := by
  unfold stateIn stateOut
  rw [show (nxt c).val = c.val + 1 from Nat.mod_eq_of_lt (by omega)]
  show k0_pay10 (aT m (dev c.val)) (inp m (dev c.val)) (passed m c.val) = _
  rw [dev_val]; rfl

/-! ## The schedule -/

/-- With its ready unit to the device before it, a device lends slot 0, and says that its receive cell is at round 0;
    device 0, into which nothing is sent, keeps the slot. -/
def lend (c : Dev nD) : sProp 𝕄 := if 0 < c.val then iprop(free slot0 c ∗ reached ER (recvCell c) 0) else iprop(emp)
def kept (c : Dev nD) : sProp 𝕄 := if 0 < c.val then iprop(emp) else free slot0 c

instance lend_storable (c : Dev nD) : BI.Storable (upEmb : UEmb _ 𝕄) (lend (F := F) c) := by
  unfold lend; split <;> infer_instance

/-- Each cell has the one round. On the barrier's and on the last semaphore's cell, duty `false` is the previous device's and
    duty `true` the next one's; a send cell has a duty unless the device is the last, a receive cell unless it is the first. -/
def dutiesAt (g : GSem nD τ sig) : Finset Bool :=
  if g.1.2 = .tc then
    if g.2 = .reg barS then Finset.univ
    else if g.2 = .reg endS then Finset.univ
    else if g.2 = .dma sendS then (if g.1.1.val < 15 then {false} else ∅)
    else if g.2 = .dma recvS then (if 0 < g.1.1.val then {false} else ∅)
    else ∅
  else ∅

def unitOf (s : SemLoc sig) : ℕ := match s with | .reg _ => 1 | .dma _ => N
theorem unitOf_pos (s : SemLoc sig) : 0 < unitOf s := by
  cases s
  · exact Nat.one_pos
  · exact N_pos

def payAt (g : GSem nD τ sig) (d : Bool) : sProp 𝕄 :=
  if g.2 = .reg barS then (if d = true then lend (nxt g.1.1) else iprop(emp))
  else if g.2 = .dma sendS then free slot1 g.1.1
  else if g.2 = .dma recvS then held slot0 g.1.1 (stateIn m g.1.1)
  else iprop(emp)

def plan : Rounds.Schedule (GSem nD τ sig) Bool 𝕄 where
  duties g r := if r = 0 then dutiesAt g else ∅
  unitless _ := False
  amount g _ _ := unitOf g.2
  payload g _ d := payAt m g d
  amount_pos g _ _ _ := unitOf_pos g.2

instance plan_storable (g : GSem nD τ sig) (r : ℕ) (d : Bool) : BI.Storable (upEmb : UEmb _ 𝕄) ((plan (F := F) m).payload g r d) := by
  show BI.Storable upEmb (payAt m g d)
  unfold payAt
  (repeat' split) <;> infer_instance

section Facts
variable (c : Dev nD)

theorem duties_later (g : GSem nD τ sig) : ∀ r, 1 ≤ r → (plan (F := F) m).duties g r = ∅ :=
  fun r hr => if_neg (by omega)
theorem duties_none (g : GSem nD τ sig) (h : dutiesAt g = ∅) : ∀ r, 0 ≤ r → (plan (F := F) m).duties g r = ∅ := by
  intro r _
  show (if r = 0 then dutiesAt g else ∅) = ∅
  rw [h, ite_self]

theorem duties_bar : (plan (F := F) m).duties (barCell c) 0 = Finset.univ := rfl
theorem duties_end : (plan (F := F) m).duties (endCell c) 0 = Finset.univ := by
  show dutiesAt (endCell c) = _
  unfold dutiesAt; rw [if_pos rfl, if_neg end_ne_bar, if_pos rfl]
theorem dutiesAt_send : dutiesAt (sendCell c) = if c.val < 15 then {false} else ∅ := by
  unfold dutiesAt; rw [if_pos rfl, if_neg send_ne_bar, if_neg send_ne_end, if_pos rfl]
theorem dutiesAt_recv : dutiesAt (recvCell c) = if 0 < c.val then {false} else ∅ := by
  unfold dutiesAt; rw [if_pos rfl, if_neg recv_ne_bar, if_neg recv_ne_end, if_neg recv_ne_send, if_pos rfl]
theorem duties_send (h : c.val < 15) : (plan (F := F) m).duties (sendCell c) 0 = {false} := (dutiesAt_send c).trans (if_pos h)
theorem duties_recv (h : 0 < c.val) : (plan (F := F) m).duties (recvCell c) 0 = {false} := (dutiesAt_recv c).trans (if_pos h)

theorem expect_bar : (plan (F := F) m).expect (barCell c) 0 = 2 := by
  unfold Schedule.expect Schedule.amountOf; rw [duties_bar]; rfl
theorem expect_end : (plan (F := F) m).expect (endCell c) 0 = 2 := by
  unfold Schedule.expect Schedule.amountOf; rw [duties_end]; rfl
theorem expect_send (h : c.val < 15) : (plan (F := F) m).expect (sendCell c) 0 = N := by
  unfold Schedule.expect Schedule.amountOf; rw [duties_send m c h, Finset.sum_singleton]; rfl
theorem expect_recv (h : 0 < c.val) : (plan (F := F) m).expect (recvCell c) 0 = N := by
  unfold Schedule.expect Schedule.amountOf; rw [duties_recv m c h, Finset.sum_singleton]; rfl

theorem pay_bar_true : (plan (F := F) m).payload (barCell c) 0 true = lend (nxt c) := rfl
theorem pay_bar_false : (plan (F := F) m).payload (barCell c) 0 false = iprop(emp) := rfl
theorem pay_end (d : Bool) : (plan (F := F) m).payload (endCell c) 0 d = iprop(emp) := by
  show payAt m (endCell c) d = _
  unfold payAt; rw [if_neg end_ne_bar, if_neg send_ne_end.symm, if_neg recv_ne_end.symm]
theorem pay_send : (plan (F := F) m).payload (sendCell c) 0 false = free slot1 c := by
  show payAt m (sendCell c) false = _
  unfold payAt; rw [if_neg send_ne_bar, if_pos rfl]
theorem pay_recv : (plan (F := F) m).payload (recvCell c) 0 false = held slot0 c (stateIn m c) := by
  show payAt m (recvCell c) false = _
  unfold payAt; rw [if_neg recv_ne_bar, if_neg recv_ne_send, if_pos rfl]

/-- What a wait for a whole round brings. -/
theorem all_bar : bigSep ((plan (F := F) m).duties (barCell c) 0 \ ∅) (fun d => (plan (F := F) m).payload (barCell c) 0 d) = iprop(emp ∗ lend (nxt c)) := by
  rw [Finset.sdiff_empty, duties_bar, bigSep_univ_eq_bigSepL [false, true] (by decide) (by decide), bigSepL_cons_cons, bigSepL_singleton,
    pay_bar_false, pay_bar_true]
  rfl
theorem all_send (h : c.val < 15) : bigSep ((plan (F := F) m).duties (sendCell c) 0 \ ∅) (fun d => (plan (F := F) m).payload (sendCell c) 0 d) = free slot1 c := by
  rw [Finset.sdiff_empty, duties_send m c h, bigSep_singleton, pay_send]
theorem all_recv (h : 0 < c.val) : bigSep ((plan (F := F) m).duties (recvCell c) 0 \ ∅) (fun d => (plan (F := F) m).payload (recvCell c) 0 d)
    = held slot0 c (stateIn m c) := by
  rw [Finset.sdiff_empty, duties_recv m c h, bigSep_singleton, pay_recv]

end Facts

/-! ## What is owed, and the levels -/

/-- What a device's receive cell expects: a slot's worth, nothing for device 0. -/
def amt (c : Dev nD) : ℕ := if 0 < c.val then N else 0

/-- What device `c` still owes, counted back from the end of the kernel: after its last signal but one, after its transfer,
    after its barrier signals, between them, and at the start. -/
def owe4 (c : Dev nD) : CellTallies nD τ sig Unit := 0 + tallyAt (endCell (nxt c)) () 1
def owe3 (c : Dev nD) : CellTallies nD τ sig Unit := owe4 c + tallyAt (endCell (prv c)) () 1
def owe2 (c : Dev nD) : CellTallies nD τ sig Unit := owe3 c + tallyAt (recvCell (nxt c)) () (amt (nxt c))
def owe1 (c : Dev nD) : CellTallies nD τ sig Unit := owe2 c + tallyAt (barCell (nxt c)) () 1
def owe0 (c : Dev nD) : CellTallies nD τ sig Unit := owe1 c + tallyAt (barCell (prv c)) () 1

theorem tally_pos {g g' : GSem nD τ sig} {u : Unit} {k : ℕ} (h : 0 < (tallyAt g () k : CellTallies nD τ sig Unit) g' u) : g' = g ∧ 0 < k := by
  rw [tallyAt_apply] at h
  by_cases hg : g' = g ∧ u = ()
  · rw [if_pos hg] at h; exact ⟨hg.1, h⟩
  · rw [if_neg hg] at h; exact absurd h (Nat.lt_irrefl 0)

theorem add_pos_cases {O O' : CellTallies nD τ sig Unit} {g : GSem nD τ sig} {u : Unit} (h : 0 < (O + O') g u) : 0 < O g u ∨ 0 < O' g u := by
  rw [Pi.add_apply, Finsupp.add_apply] at h; omega

/-- Which cells carry a level at all: the TensorCores'. -/
def lev (g : GSem nD τ sig) : Finset Unit := if g.1.2 = .tc then {()} else ∅
/-- The order of the waits: staging and sends first, then the barrier, then the receive cells along the chain, the last
    semaphore after them all. -/
def lvl (g : GSem nD τ sig) (_ : Unit) : ℕ :=
  if g.2 = .reg barS then 1 else if g.2 = .reg endS then 100 else if g.2 = .dma recvS then 2 + g.1.1.val else 0

theorem lev_of_ne (g : GSem nD τ sig) (h : g.1.2 ≠ .tc) : lev g = ∅ := if_neg h
theorem lev_tc (c : Dev nD) (s : SemLoc sig) : lev ((c : Thread nD τ), s) = {()} := if_pos rfl
theorem lvl_bar (c : Dev nD) (u : Unit) : lvl (barCell c) u = 1 := if_pos rfl
theorem lvl_end (c : Dev nD) (u : Unit) : lvl (endCell c) u = 100 := by unfold lvl; rw [if_neg end_ne_bar, if_pos rfl]
theorem lvl_recv (c : Dev nD) (u : Unit) : lvl (recvCell c) u = 2 + c.val := by
  unfold lvl; rw [if_neg recv_ne_bar, if_neg recv_ne_end, if_pos rfl]
theorem lvl_other (c : Dev nD) (q : DmaSem sig) (h : SemLoc.dma q ≠ .dma recvS) (u : Unit) : lvl ((c : Thread nD τ), .dma q) u = 0 := by
  unfold lvl; rw [if_neg (fun h => by cases h), if_neg (fun h => by cases h), if_neg h]

/-- What is owed after the barrier signals lies above the level `b`, on a TensorCore: what a wait at level `b` asks. -/
def Above (b : ℕ) (O : CellTallies nD τ sig Unit) : Prop := ∀ (g : GSem nD τ sig) (u : Unit), 0 < O g u → g.1.2 = .tc ∧ b < lvl g u

theorem above_add {b : ℕ} {O O' : CellTallies nD τ sig Unit} (h : Above b O) (h' : Above b O') : Above b (O + O') :=
  fun g u hp => (add_pos_cases hp).elim (h g u) (h' g u)
theorem above_tally {b k : ℕ} {c : Dev nD} {s : SemLoc sig} (h : 0 < k → b < lvl ((c : Thread nD τ), s) ()) : Above b (tallyAt ((c : Thread nD τ), s) () k) :=
  fun g u hp => by obtain ⟨rfl, hk⟩ := tally_pos hp; exact ⟨rfl, h hk⟩
theorem above_zero (b : ℕ) : Above b 0 := fun g u hp => absurd hp (Nat.lt_irrefl 0)

theorem above_owe3 (c : Dev nD) {b : ℕ} (hb : b < 100) : Above b (owe3 c) := by
  unfold owe3 owe4
  exact above_add (above_add (above_zero b) (above_tally fun _ => by rw [lvl_end]; exact hb)) (above_tally fun _ => by rw [lvl_end]; exact hb)
theorem above_owe2 (c : Dev nD) {b : ℕ} (hb : b ≤ 2 + c.val) : Above b (owe2 c) := by
  unfold owe2
  have hc : c.val < 16 := c.isLt
  refine above_add (above_owe3 c (by omega)) (above_tally fun hk => ?_)
  rw [lvl_recv]
  unfold amt at hk
  have h : 0 < (nxt c).val := by by_contra h; rw [if_neg h] at hk; exact Nat.lt_irrefl 0 hk
  have hv : (nxt c).val = (c.val + 1) % 16 := rfl
  omega
theorem above_owe0 (c : Dev nD) : Above 0 (owe0 c) := by
  unfold owe0 owe1
  exact above_add (above_add (above_owe2 c (Nat.zero_le _)) (above_tally fun _ => by rw [lvl_bar]; exact Nat.one_pos)) (above_tally fun _ => by rw [lvl_bar]; exact Nat.one_pos)

theorem may_wait (c : Dev nD) (s : SemLoc sig) {O : CellTallies nD τ sig Unit} (h : Above (lvl ((c : Thread nD τ), s) ()) O) :
    (levAts lev lvl : sProp 𝕄) ⊢ MayWait (c : Thread nD τ) s () O :=
  MayOwe.of_cut (L := lev) (lev := lvl) (lvl ((c : Thread nD τ), s) ())
    (fun p hp => by rw [Finset.mem_singleton.mp hp, lev_tc]; exact Finset.mem_singleton_self _)
    (fun g u hg => by unfold lev; rw [if_pos (h g u hg).1]; exact Finset.mem_singleton_self _)
    (fun p hp => by rw [Finset.mem_singleton.mp hp])
    (fun g u hg => (h g u hg).2)

end Cert.KernelIdeal.Chain

end
-- ==== Proof.KernelIdeal.Body.lean ====
/-
The kernel's body on one device, run symbolically part by part.

Each part is a triple over whatever follows it: what the part takes, and what it leaves. The second part, which
branches on the device's number, is first written as four stages in a row, each run by itself.
-/
module

public import proofs.«01_k».proof.Proof.KernelIdeal.Cells

@[expose] public section

noncomputable section

namespace Cert.KernelIdeal.Chain

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ)

/-! ## What every device knows, and what each one holds -/

/-- Every cell's invariant, and that every cell is at round 0. -/
def records (K : Dev nD × Fin 4 → ℕ) : sProp 𝕄 :=
  iprop((bigSep Finset.univ fun ck : Dev nD × Fin 4 => cellInv ER (plan m) (K ck) (kcell ck))
    ∗ bigSep Finset.univ fun ck : Dev nD × Fin 4 => reached ER (kcell ck) 0)

instance records_persistent (K : Dev nD × Fin 4 → ℕ) : BI.Persistent (records m K) := by unfold records; infer_instance

theorem records_inv (K : Dev nD × Fin 4 → ℕ) (ck : Dev nD × Fin 4) : records m K ⊢ cellInv ER (plan m) (K ck) (kcell ck) := by
  have h : (bigSep Finset.univ fun ck : Dev nD × Fin 4 => (cellInv ER (plan m) (K ck) (kcell ck) : sProp 𝕄)) ⊢ cellInv ER (plan m) (K ck) (kcell ck) :=
    bigSep_elim (Finset.mem_univ ck)
  unfold records
  iintro ⟨H, -⟩
  iapply h; iexact H
theorem records_reached (K : Dev nD × Fin 4 → ℕ) (ck : Dev nD × Fin 4) : records m K ⊢ reached ER (kcell ck) 0 := by
  have h : (bigSep Finset.univ fun ck : Dev nD × Fin 4 => (reached ER (kcell ck) 0 : sProp 𝕄)) ⊢ reached ER (kcell ck) 0 :=
    bigSep_elim (Finset.mem_univ ck)
  unfold records
  iintro ⟨-, H⟩
  iapply h; iexact H

/-- What device `c` still owes, whatever it has waited on. -/
def owing (c : Dev nD) (O : CellTallies nD τ sig Unit) : sProp 𝕄 := iprop(∃ W, owes (c : Thread nD τ) O W)

abbrev 𝒱₀ : Variants := Variants.none

/-- A program's run on device `c`. -/
abbrev exec (c : Dev nD) {α : Type} (p : Prog (TpuEff nD τ sig (Elt F) Λ₀ .tc) α) (Q : α → sProp 𝕄) : sProp 𝕄 :=
  wp frame (wpE (defs₀ (F := F)) 𝒱₀ (Dev.tc c : Thread nD τ) none) Set.univ p Q

/-- A whole staging buffer at given contents. -/
abbrev stg (c : Dev nD) (b : Ref sig .tc) (X : b.ty.Contents (Elt F)) : sProp 𝕄 := (((c : Thread nD τ).loc b) ↦{fullShare} X : sProp 𝕄)

abbrev xM : Memref sig .tc .vmem S4x256x256 .bf16 := Memref.whole cc0_stg0_0
abbrev aM : Memref sig .tc .vmem S256x16 .bf16 := Memref.whole cc0_stg1_0
abbrev bM : Memref sig .tc .vmem S4x256x16 .bf16 := Memref.whole cc0_stg2_0
abbrev cM : Memref sig .tc .vmem S4x256x16 .bf16 := Memref.whole cc0_stg3_0
abbrev oM : Memref sig .tc .vmem S4x256x256 .f32 := Memref.whole cc0_stg4_0

theorem off2 : (![0, 0] : Fin 2 → Nat) = fun _ => 0 := funext fun a => by fin_cases a <;> rfl
theorem off3 : (![0, 0, 0] : Fin 3 → Nat) = fun _ => 0 := funext fun a => by fin_cases a <;> rfl

/-! ## Crossing a semaphore -/

/-- A unit raised on a neighbour's cell, the duty paid and its payload handed over. -/
theorem raise {α : Type} {Q : α → sProp 𝕄} {k : PUnit → Prog (TpuEff nD τ sig (Elt F) Λ₀ .tc) α} (K : Dev nD × Fin 4 → ℕ)
    (c n : Dev nD) (s : Sem sig) (i : Fin 4) (hi : csem i = .reg s) (d : Bool) (hd : d ∈ (plan (F := F) m).duties ((n : Thread nD τ), .reg s) 0)
    (O : CellTallies nD τ sig Unit) :
    iprop(records m K ∗ owing c (O + tallyAt ((n : Thread nD τ), .reg s) () 1) ∗ dutyTok ER ((n : Thread nD τ), .reg s) 0 d
        ∗ (plan (F := F) m).payload ((n : Thread nD τ), .reg s) 0 d)
      ⊢ iprop((owing c O -∗ exec c (k ⟨⟩) Q) -∗ exec c (.op (.semSignal (n : Thread nD τ) s (1#32).toNat) k) Q) := by
  have hk : kcell (n, i) = ((n : Thread nD τ), SemLoc.reg s) := by show ((n : Thread nD τ), csem i) = _; rw [hi]
  iintro ⟨#HR, Ho, Ht, Hp⟩ Hk
  unfold owing
  icases Ho with ⟨%W, Ho⟩
  iapply (Rounds.wp_signal 𝒱₀ ER (plan m) (c : Thread nD τ) none (dst := (n : Thread nD τ)) (κ := K (n, i)) (k' := (1#32).toNat) (W := W) hd rfl () O rfl) $$ [Ho Ht Hp]
  · isplitr
    · rw [← hk]; iapply (records_inv m K (n, i)); iexact HR
    isplitl [Ho]; · iexact Ho
    isplitl [Ht]; · iexact Ht
    isplitl [Hp]; · iexact Hp
    rw [← hk]; iapply (records_reached m K (n, i)); iexact HR
  iintro Ho
  iapply Hk
  iexists W; iexact Ho

/-- A whole round waited for: its payloads come, and the cell, which has no more rounds, is closed at zero. -/
theorem await {α : Type} {Q : α → sProp 𝕄} {w : TpuEff nD τ sig (Elt F) Λ₀ .tc PUnit} {k : PUnit → Prog (TpuEff nD τ sig (Elt F) Λ₀ .tc) α}
    (K : Dev nD × Fin 4 → ℕ) (c : Dev nD) (i : Fin 4) (n : ℕ)
    (hw : ∀ P : PUnit → sProp 𝕄, wpE (defs₀ (F := F)) 𝒱₀ (c : Thread nD τ) none Set.univ w P = waitSpec (c : Thread nD τ) Set.univ (csem i) n P)
    (hn : n = (plan (F := F) m).expect (kcell (c, i)) 0) (O : CellTallies nD τ sig Unit) (hO : Above (lvl (kcell (c, i)) ()) O) :
    iprop(records m K ∗ levAts lev lvl ∗ cred (tallyAt (kcell (c, i)) () n) ∗ owing c O ∗ atPos ER (kcell (c, i)) 0 ∅ 0)
      ⊢ iprop(((owing c O ∗ semVal (kcell (c, i)) 0
            ∗ bigSep ((plan (F := F) m).duties (kcell (c, i)) 0 \ ∅) (fun d => (plan (F := F) m).payload (kcell (c, i)) 0 d)) -∗ exec c (k ⟨⟩) Q)
          -∗ exec c (.op w k) Q) := by
  iintro ⟨#HR, #Hlev, Hc, Ho, Hat⟩ Hk
  unfold owing
  icases Ho with ⟨%W, Ho⟩
  iapply (Rounds.wp_wait_rest_token 𝒱₀ ER (plan m) (c : Thread nD τ) none (κ := K (c, i)) hw (Set.mem_univ _) () (O := O) (W := W) (R := 0) (m := 0) (T := ∅)
      (by rw [Nat.zero_add]; exact hn)) $$ [Hc Ho Hat]
  · isplitr; · iapply (records_inv m K (c, i)); iexact HR
    isplitl [Hc]; · iexact Hc
    isplitl [Ho]; · iexact Ho
    isplitr; · iapply (may_wait c (csem i) hO); iexact Hlev
    iexact Hat
  iintro ⟨Ho, Hat, -, Hp⟩
  imod (Rounds.cell_close ER (plan m) (Set.mem_univ (K (c, i))) (fun h => h) (R := 0 + 1) (duties_later m (kcell (c, i)))) $$ [Hat] with Hz
  · isplitr; · iapply (records_inv m K (c, i)); iexact HR
    iexact Hat
  iapply Hk
  isplitl [Ho]; · iexists _; iexact Ho
  isplitl [Hz]; · iexact Hz
  iexact Hp

/-- A cell that nothing is ever paid on is closed at once. -/
theorem close_unused (K : Dev nD × Fin 4 → ℕ) (c : Dev nD) (i : Fin 4) (h : dutiesAt (kcell (c, i)) = ∅) :
    iprop(records m K ∗ atPos ER (kcell (c, i)) 0 ∅ 0) ⊢ |={Set.univ}=> semVal (kcell (c, i)) 0 := by
  iintro ⟨#HR, Hat⟩
  iapply (Rounds.cell_close ER (plan m) (Set.mem_univ (K (c, i))) (fun h => h) (R := 0) (duties_none m _ h))
  isplitr; · iapply (records_inv m K (c, i)); iexact HR
  iexact Hat

/-! ## The first part: the barrier, then the loads -/

theorem part1 {α : Type} {Q : α → sProp 𝕄} (K : Dev nD × Fin 4 → ℕ) (c : Dev nD)
    (k : (Σ' (d0 : Dev nD) (v2 : BitVec 32) (v5 : BitVec 32) (v7 : BitVec 32) (v15 : FVec F S16x256 .bf16) (v21 : FVec F S4x256x16 .bf16), FVec F S256x4x16x256 .f32)
      → Prog (TpuEff nD τ sig (Elt F) Λ₀ .tc) α) :
    iprop(records m K ∗ levAts lev lvl ∗ owing c (owe0 c) ∗ lend c ∗ dutyTok ER (barCell (prv c)) 0 true ∗ dutyTok ER (barCell (nxt c)) 0 false
        ∗ cred (tallyAt (barCell c) () 2) ∗ atPos ER (barCell c) 0 ∅ 0
        ∗ stg c cc0_stg0_0 (xIn m c) ∗ stg c cc0_stg1_0 (aIn m c) ∗ stg c cc0_stg2_0 (bIn m c) ∗ stg c cc0_stg3_0 (cIn m c))
      ⊢ iprop(((owing c (owe2 c) ∗ lend (nxt c) ∗ semVal (barCell c) 0
            ∗ stg c cc0_stg0_0 (xIn m c) ∗ stg c cc0_stg1_0 (aIn m c) ∗ stg c cc0_stg2_0 (bIn m c) ∗ stg c cc0_stg3_0 (cIn m c))
          -∗ ∀ v5, ∀ v7, exec c (k ⟨c, Scalar.remsi (Scalar.divsi (Dev.word c) 1#32) 16#32, v5, v7, aT m c, wOut m c, inp m c⟩) Q)
        -∗ exec c (k0_part1 xM (Memref.isWhole_whole _) aM (Memref.isWhole_whole _) bM (Memref.isWhole_whole _) cM (Memref.isWhole_whole _)
            oM (Memref.isWhole_whole _) scM (Memref.isWhole_whole _) cc0_scratch1 cc0_scratch2 cc0_scoped0 >>= k) Q) := by
  have ha := Memref.readAt_unit_zero (Elt F) cc0_stg1_0 off2 inb_S256x16_S256x16_0_0 (aIn m c)
  have hx := Memref.readAt_unit_zero (Elt F) cc0_stg0_0 off3 inb_S4x256x256_S4x256x256_0_0_0 (xIn m c)
  have hb := Memref.readAt_unit_zero (Elt F) cc0_stg2_0 off3 inb_S4x256x16_S4x256x16_0_0_0 (bIn m c)
  have hc := Memref.readAt_unit_zero (Elt F) cc0_stg3_0 off3 inb_S4x256x16_S4x256x16_0_0_0 (cIn m c)
  have ea : aT m c = k0_pay4 (aM.view.readAt (Elt F) (Rect.unit (s := S256x16) ![0, 0] S256x16.size inb_S256x16_S256x16_0_0).toLoadRect (aIn m c)) :=
    congrArg k0_pay4 ha.symm
  have ew : wOut m c = k0_pay5 (cM.view.readAt (Elt F) (Rect.unit (s := S4x256x16) ![0, 0, 0] S4x256x16.size inb_S4x256x16_S4x256x16_0_0_0).toLoadRect (cIn m c)) :=
    congrArg k0_pay5 hc.symm
  have eu : inp m c = k0_pay6 (xM.view.readAt (Elt F) (Rect.unit (s := S4x256x256) ![0, 0, 0] S4x256x256.size inb_S4x256x256_S4x256x256_0_0_0).toLoadRect (xIn m c))
      (bM.view.readAt (Elt F) (Rect.unit (s := S4x256x16) ![0, 0, 0] S4x256x16.size inb_S4x256x16_S4x256x16_0_0_0).toLoadRect (bIn m c)) :=
    congrArg₂ k0_pay6 hx.symm hb.symm
  simp only [k0_part1_eq_skeleton]; unfold k0_part1_skel
  simp only [semSignalWord, semWaitWord, Prog.lift, Prog.bind_op, Prog.bind_ret, Prog.pure_eq_ret, wp_deviceId, dev1_eq, dev2_eq]
  iintro ⟨#HR, #Hlev, Ho, Hl, Ht1, Ht2, Hc, Hat, Hx, Ha, Hb, Hcc⟩ Hk
  unfold owe0
  iapply (raise m K c (prv c) barS 0 rfl true (by rw [duties_bar]; exact Finset.mem_univ _) (owe1 c)) $$ [Ho Ht1 Hl]
  · isplitr; · iexact HR
    isplitl [Ho]; · iexact Ho
    isplitl [Ht1]; · iexact Ht1
    rw [pay_bar_true, nxt_prv]; iexact Hl
  iintro Ho
  unfold owe1
  iapply (raise m K c (nxt c) barS 0 rfl false (by rw [duties_bar]; exact Finset.mem_univ _) (owe2 c)) $$ [Ho Ht2]
  · isplitr; · iexact HR
    isplitl [Ho]; · iexact Ho
    isplitl [Ht2]; · iexact Ht2
    rw [pay_bar_false]; iempintro
  iintro Ho
  iapply (await m K c 0 (2#32).toNat (wpE_semWait_eq 𝒱₀ (c : Thread nD τ) none Set.univ) (expect_bar m c).symm (owe2 c)
      (above_owe2 c (by rw [show lvl (kcell (c, 0)) () = 1 from lvl_bar c ()]; omega))) $$ [Hc Ho Hat]
  · isplitr; · iexact HR
    isplitr; · iexact Hlev
    isplitl [Hc]; · iexact Hc
    isplitl [Ho]; · iexact Ho
    iexact Hat
  iintro ⟨Ho, Hz, Hp⟩
  ihave Hp' := (Entails.of_eq (all_bar m c)) $$ Hp
  icases Hp' with ⟨-, Hl⟩
  iapply (wp_load 𝒱₀ (c : Thread nD τ) none Set.univ (m := aM) (Finset.subset_univ _)) $$ Ha; iintro Ha
  iapply (wp_load 𝒱₀ (c : Thread nD τ) none Set.univ (m := xM) (Finset.subset_univ _)) $$ Hx; iintro Hx
  iapply (wp_load 𝒱₀ (c : Thread nD τ) none Set.univ (m := bM) (Finset.subset_univ _)) $$ Hb; iintro Hb
  iapply (wp_load 𝒱₀ (c : Thread nD τ) none Set.univ (m := cM) (Finset.subset_univ _)) $$ Hcc; iintro Hcc
  iapply (show iprop(∀ v5, ∀ v7, exec c (k ⟨c, Scalar.remsi (Scalar.divsi (Dev.word c) 1#32) 16#32, v5, v7, aT m c, wOut m c, inp m c⟩) Q) ⊢ _ from by
    rw [ea, ew, eu]
    exact (forall_elim (Scalar.remsi (Scalar.subi (Scalar.addi (Scalar.remsi (Scalar.divsi c.word 1#32) 16#32) 16#32) 1#32) 16#32)).trans
      (forall_elim (Scalar.remsi (Scalar.addi (Scalar.remsi (Scalar.divsi c.word 1#32) 16#32) 1#32) 16#32)))
  iapply Hk
  isplitl [Ho]; · iexact Ho
  isplitl [Hl]; · iexact Hl
  isplitl [Hz]; · iexact Hz
  isplitl [Hx]; · iexact Hx
  isplitl [Ha]; · iexact Ha
  isplitl [Hb]; · iexact Hb
  iexact Hcc

/-! ## The second part: the state that enters, and the state that leaves -/

/-- The device's position along the sequence, as the kernel computes it, and the two conditions it makes of it. -/
def place (c : Dev nD) : BitVec 32 := Scalar.remsi (Scalar.divsi (Dev.word c) 1#32) 16#32
def isFirst (c : Dev nD) : BitVec 1 := Scalar.cmpi .ne (Scalar.extui (Scalar.cmpi .eq (place c) 0#32) : BitVec 32) 0#32
def isLater (c : Dev nD) : BitVec 1 := Scalar.cmpi .ne (Scalar.extui (Scalar.cmpi .sgt (place c) 0#32) : BitVec 32) 0#32

theorem isFirst_iff (c : Dev nD) : isFirst c = 1#1 ↔ c.val = 0 := by revert c; decide
theorem isLater_iff (c : Dev nD) : isLater c = 1#1 ↔ 0 < c.val := by revert c; decide
theorem sends_iff (c : Dev nD) : k0_cond3 c = 1#1 ↔ c.val < 15 := by revert c; decide

/-- Device 0 fills slot 0 with zeros. -/
def fillStage (c : Dev nD) : Prog (TpuEff nD τ sig (Elt F) Λ₀ .tc) PUnit :=
  if isFirst c = 1#1 then do
    let _ : Vec F S1x4x16x256 .f32 ← Prog.lift (.load scM rect0.toLoadRect (View.loadsAt_vmem h_S1x4x16x256))
    Prog.lift (.store scM rect0 (k0_pay8 (F := F)) Finset.univ (View.stores_vmem_bits_univ h_S1x4x16x256 rfl) (.inl rfl))
  else pure ⟨⟩
/-- Every other device waits for the state to arrive there. -/
def recvStage (c : Dev nD) : Prog (TpuEff nD τ sig (Elt F) Λ₀ .tc) PUnit :=
  if isLater c = 1#1 then
    Prog.lift (.waitDma2 recvS slot1M slot0M ((View.wordExact_bits rfl).reshape _ _) ((View.wordExact_bits rfl).reshape _ _))
  else pure ⟨⟩
/-- Every device but the last puts the state that leaves it in slot 1 and sends it on. -/
def sendStage (c : Dev nD) (X : Vec F S1x4x16x256 .f32) : Prog (TpuEff nD τ sig (Elt F) Λ₀ .tc) PUnit :=
  if h : k0_cond3 c = 1#1 then do
    let _ : Vec F S1x4x16x256 .f32 ← Prog.lift (.load scM rect1.toLoadRect (View.loadsAt_vmem h_S1x4x16x256))
    Prog.lift (.store scM rect1 X Finset.univ (View.stores_vmem_bits_univ h_S1x4x16x256 rfl) (.inl rfl))
    Prog.lift (.enqueueDma slot1M (.remote (Dev.tc (⟨k0_dev3 c, k0_dev3_lt c h⟩ : Dev nD)) slot0M (.dma sendS)) (.dma recvS) ((View.wordExact_bits rfl).reshape _ _) ((View.wordExact_bits rfl).reshape _ _) ⟨⟨rfl, Or.inl rfl⟩, trivial⟩)
    Prog.lift (.waitDma2 sendS slot0M slot1M ((View.wordExact_bits rfl).reshape _ _) ((View.wordExact_bits rfl).reshape _ _))
  else pure ⟨⟩

theorem part2_stages (c : Dev nD) (v5 v7 : BitVec 32) (A : FVec F S16x256 .bf16) (U : FVec F S256x4x16x256 .f32) :
    k0_part2 xM (Memref.isWhole_whole _) aM (Memref.isWhole_whole _) bM (Memref.isWhole_whole _) cM (Memref.isWhole_whole _)
      oM (Memref.isWhole_whole _) scM (Memref.isWhole_whole _) cc0_scratch1 cc0_scratch2 cc0_scoped0 c (place c) v5 v7 A U
    = (fillStage c >>= fun _ => recvStage c >>= fun _ =>
        Prog.lift (.load scM rect0.toLoadRect (View.loadsAt_vmem h_S1x4x16x256)) >>= fun v : Vec F S1x4x16x256 .f32 =>
        sendStage c (k0_pay10 A U v) >>= fun _ => pure ⟨k0_pay7 (F := F), k0_pay9 v, k0_pay11 A U, k0_pay12 A⟩) := by
  rw [k0_part2_eq_skeleton]
  unfold k0_part2_skel fillStage recvStage sendStage isFirst isLater
  by_cases h1 : Scalar.cmpi .ne (Scalar.extui (Scalar.cmpi .eq (place c) 0#32) : BitVec 32) 0#32 = 1#1 <;>
  by_cases h2 : Scalar.cmpi .ne (Scalar.extui (Scalar.cmpi .sgt (place c) 0#32) : BitVec 32) 0#32 = 1#1 <;>
  by_cases h3 : k0_cond3 c = 1#1 <;>
  simp only [h1, h2, h3, dif_pos, dif_neg, if_pos, if_neg, not_false_eq_true, Prog.lift, Prog.bind_op, Prog.bind_ret, Prog.pure_eq_ret] <;> rfl

/-- What slot 0 holds before the state arrives: device 0 has it, the others lent it. -/
theorem fill_stage {Q : PUnit → sProp 𝕄} (c : Dev nD) :
    kept c ⊢ iprop(((if c.val = 0 then held slot0 c (stateIn m c) else iprop(emp)) -∗ Q ⟨⟩) -∗ exec c (fillStage c) Q) := by
  unfold fillStage kept
  by_cases h : c.val = 0
  · rw [if_pos ((isFirst_iff c).mpr h), if_pos h, if_neg (by omega)]
    simp only [Prog.lift, Prog.bind_op, Prog.bind_ret]
    unfold free
    iintro ⟨%f, H⟩ Hk
    iapply (wp_load_rect 𝒱₀ (c : Thread nD τ) none Set.univ (m := scM) (r := rect0) (Finset.Subset.refl _)) $$ H; iintro H
    iapply (wp_store 𝒱₀ (c : Thread nD τ) none Set.univ (m := scM) (r := rect0) (Mk := Finset.univ) (by rw [View.setOn_univ])) $$ H; iintro H
    rw [wp_ret]; imodintro
    iapply Hk
    unfold held
    iexists _
    isplitr
    · ipureintro; rw [stateIn_zero m h]; exact View.read_write_univ f _
    iexact H
  · rw [if_neg (fun h' => h ((isFirst_iff c).mp h')), if_neg h, if_pos (by omega), Prog.pure_eq_ret]
    unfold exec; rw [wp_ret]
    iintro - Hk; imodintro; iapply Hk; iempintro

theorem recv_stage {Q : PUnit → sProp 𝕄} (K : Dev nD × Fin 4 → ℕ) (c : Dev nD) :
    iprop(records m K ∗ levAts lev lvl ∗ cred (tallyAt (recvCell c) () (amt c)) ∗ owing c (owe2 c) ∗ atPos ER (recvCell c) 0 ∅ 0
        ∗ (if c.val = 0 then held slot0 c (stateIn m c) else iprop(emp)))
      ⊢ iprop(((owing c (owe2 c) ∗ semVal (recvCell c) 0 ∗ held slot0 c (stateIn m c)) -∗ Q ⟨⟩) -∗ exec c (recvStage c) Q) := by
  unfold recvStage
  by_cases h : c.val = 0
  · rw [if_pos h, if_neg (fun h' => by have := (isLater_iff c).mp h'; omega), Prog.pure_eq_ret]
    unfold exec; rw [wp_ret]
    iintro ⟨#HR, -, -, Ho, Hat, Hh⟩ Hk
    imod (close_unused m K c 3 (by show dutiesAt (recvCell c) = ∅; rw [dutiesAt_recv, if_neg (by omega)])) $$ [Hat] with Hz
    · isplitr; · iexact HR
      iexact Hat
    imodintro
    iapply Hk
    isplitl [Ho]; · iexact Ho
    isplitl [Hz]; · iexact Hz
    iexact Hh
  · rw [if_neg h, if_pos ((isLater_iff c).mpr (by omega))]
    simp only [Prog.lift]
    unfold amt; rw [if_pos (show 0 < c.val by omega)]
    iintro ⟨#HR, #Hlev, Hc, Ho, Hat, -⟩ Hk
    iapply (await m K c 3 N (wpE_waitDma2_eq (src := slot1M) (dst := slot0M) (hsrc := (View.wordExact_bits rfl).reshape _ _) (hdst := (View.wordExact_bits rfl).reshape _ _) 𝒱₀ (c : Thread nD τ) none Set.univ) (expect_recv m c (by omega)).symm (owe2 c)
      (above_owe2 c (by rw [show lvl (kcell (c, 3)) () = 2 + c.val from lvl_recv c ()]))) $$ [Hc Ho Hat]
    · isplitr; · iexact HR
      isplitr; · iexact Hlev
      isplitl [Hc]; · iexact Hc
      isplitl [Ho]; · iexact Ho
      iexact Hat
    iintro ⟨Ho, Hz, Hp⟩
    ihave Hp' := (Entails.of_eq (all_recv m c (by omega))) $$ Hp
    unfold exec; rw [wp_ret]; imodintro
    iapply Hk
    isplitl [Ho]; · iexact Ho
    isplitl [Hz]; · iexact Hz
    iexact Hp'

/-- The transfer of slot 1, holding the state that leaves, to the next device's slot 0. -/
theorem send_on {α : Type} {Q : α → sProp 𝕄} {k : PUnit → Prog (TpuEff nD τ sig (Elt F) Λ₀ .tc) α} (K : Dev nD × Fin 4 → ℕ)
    (c n : Dev nD) (hn : n = nxt c) (h : c.val < 15) :
    iprop(records m K ∗ held slot1 c (stateOut m c) ∗ free slot0 (nxt c) ∗ reached ER (recvCell (nxt c)) 0 ∗ owing c (owe2 c)
        ∗ dutyTok ER (sendCell c) 0 false ∗ dutyTok ER (recvCell (nxt c)) 0 false)
      ⊢ iprop(((cred (tallyAt (sendCell c) () N) ∗ owing c (owe3 c)) -∗ exec c (k ⟨⟩) Q)
          -∗ exec c (.op (.enqueueDma slot1M (.remote (Dev.tc n : Thread nD τ) slot0M (.dma sendS)) (.dma recvS)
            ((View.wordExact_bits rfl).reshape _ _) ((View.wordExact_bits rfl).reshape _ _) ⟨⟨rfl, Or.inl rfl⟩, trivial⟩) k) Q) := by
  subst hn
  have hn : 0 < (nxt c).val := by
    have : (nxt c).val = c.val + 1 := Nat.mod_eq_of_lt (by omega)
    omega
  have hd1 : false ∈ (plan (F := F) m).duties (sendCell c) 0 := by rw [duties_send m c h]; exact Finset.mem_singleton_self _
  have hd2 : false ∈ (plan (F := F) m).duties (recvCell (nxt c)) 0 := by rw [duties_recv m (nxt c) hn]; exact Finset.mem_singleton_self _
  have ho : owe2 c = owe3 c + tallyAt (recvCell (nxt c)) () N := by unfold owe2 amt; rw [if_pos hn]
  have hp1 (g : Buf (Elt F) (slot1M.view.loc (c : Thread nD τ))) :
      (slot1M.view.loc (c : Thread nD τ) ↦[slot1M.view.set]{fullShare} g : sProp 𝕄) ⊢ (plan (F := F) m).payload (sendCell c) 0 false := by
    rw [pay_send]; unfold free; rw [slot1M_set]; iintro H; iexists g; iexact H
  have hp2 (g : Buf (Elt F) (slot1M.view.loc (c : Thread nD τ))) (hg : slot1.read (Elt F) g = stateOut m c) (f : Buf (Elt F) (slot0M.view.loc (nxt c : Thread nD τ))) :
      (slot0M.view.loc (nxt c : Thread nD τ) ↦[slot0M.view.set]{fullShare} slot0M.view.write (Elt F) f (slot1M.view.read (Elt F) g) Finset.univ : sProp 𝕄)
        ⊢ (plan (F := F) m).payload (recvCell (nxt c)) 0 false := by
    rw [pay_recv, stateIn_nxt m h]; unfold held; rw [slot0M_set]
    iintro H; iexists _
    isplitr
    · ipureintro; rw [← hg]; exact slot0_landed f g
    iexact H
  unfold held free owing
  iintro ⟨#HR, ⟨%g, %hg, H1⟩, ⟨%f, H0⟩, #Hr, ⟨%W, Ho⟩, Ht1, Ht2⟩ Hk
  have a1 : slot0M.view.amount (.dma recvS) = N := rfl
  have a2 : (plan (F := F) m).amount (sendCell c) 0 false = N := rfl
  have a3 : (plan (F := F) m).amount (recvCell (nxt c)) 0 false = N := rfl
  iapply (Rounds.wp_send_pointsTo (Q := Q) (k := k) (defs := defs₀ (F := F)) 𝒱₀ ER (plan m) (c : Thread nD τ) none (c' := (nxt c : Thread nD τ)) (src := slot1M) (dst := slot0M)
    (sS := .dma sendS) (sem := .dma recvS) (κ₁ := K (c, 2)) (κ₂ := K (nxt c, 3)) (q := fullShare) (hsc := rfl)
    (hsrc := (View.wordExact_bits rfl).reshape _ _) (hdst := (View.wordExact_bits rfl).reshape _ _) (hsem := ⟨⟨rfl, Or.inl rfl⟩, trivial⟩)
    (r₁ := 0) (r₂ := 0) (d₁ := false) (d₂ := false) (fs := g) (fd := f)
    hd1 hd2 () () N a1 a2 a3 (owe3 c) ho (W := W) (hp1 g) (hp2 g hg f)) $$ [H0 H1 Ho Ht1 Ht2]
  · isplitr; · iapply (records_inv m K (c, 2)); iexact HR
    isplitr; · iapply (records_inv m K (nxt c, 3)); iexact HR
    isplitl [H1]; · rw [slot1M_set]; iexact H1
    isplitl [H0]; · rw [slot0M_set]; iexact H0
    isplitl [Ho]; · iexact Ho
    isplitl [Ht1]; · iexact Ht1
    isplitr; · iapply (records_reached m K (c, 2)); iexact HR
    isplitl [Ht2]; · iexact Ht2
    iexact Hr
  iintro ⟨Hc, Ho⟩
  iapply Hk
  isplitl [Hc]; · iexact Hc
  iexists W; iexact Ho

theorem send_stage {Q : PUnit → sProp 𝕄} (K : Dev nD × Fin 4 → ℕ) (c : Dev nD) :
    iprop(records m K ∗ levAts lev lvl ∗ free slot1 c ∗ lend (nxt c) ∗ owing c (owe2 c) ∗ atPos ER (sendCell c) 0 ∅ 0
        ∗ dutyTok ER (sendCell c) 0 false ∗ dutyTok ER (recvCell (nxt c)) 0 false)
      ⊢ iprop(((owing c (owe3 c) ∗ semVal (sendCell c) 0 ∗ free slot1 c) -∗ Q ⟨⟩) -∗ exec c (sendStage c (stateOut m c)) Q) := by
  unfold sendStage
  by_cases h : c.val < 15
  · rw [dif_pos ((sends_iff c).mpr h)]
    have hn : 0 < (nxt c).val := by
      have : (nxt c).val = c.val + 1 := Nat.mod_eq_of_lt (by omega)
      omega
    unfold lend; rw [if_pos hn]
    simp only [Prog.lift, Prog.bind_op, Prog.bind_ret]
    iintro ⟨#HR, #Hlev, H1, ⟨H0, #Hr⟩, Ho, Hat, Ht1, Ht2⟩ Hk
    ihave H1' := (Entails.of_eq (show free slot1 c = (iprop(∃ f, slot1.loc (c : Thread nD τ) ↦[slot1.set]{fullShare} f) : sProp 𝕄) from rfl)) $$ H1
    icases H1' with ⟨%f, H1⟩
    iapply (wp_load_rect 𝒱₀ (c : Thread nD τ) none Set.univ (m := scM) (r := rect1) (Finset.Subset.refl _)) $$ H1; iintro H1
    iapply (wp_store 𝒱₀ (c : Thread nD τ) none Set.univ (m := scM) (r := rect1) (Mk := Finset.univ) (by rw [View.setOn_univ])) $$ H1; iintro H1
    iapply (send_on m K c _ (dev3_eq c ((sends_iff c).mpr h)) h) $$ [H0 H1 Ho Ht1 Ht2]
    · isplitr; · iexact HR
      isplitl [H1]
      · unfold held; iexists _
        isplitr
        · ipureintro; exact View.read_write_univ f _
        iexact H1
      isplitl [H0]; · iexact H0
      isplitr; · iexact Hr
      isplitl [Ho]; · iexact Ho
      isplitl [Ht1]; · iexact Ht1
      iexact Ht2
    iintro ⟨Hc, Ho⟩
    iapply (await m K c 2 N (wpE_waitDma2_eq (src := slot0M) (dst := slot1M) (hsrc := (View.wordExact_bits rfl).reshape _ _) (hdst := (View.wordExact_bits rfl).reshape _ _) 𝒱₀ (c : Thread nD τ) none Set.univ) (expect_send m c h).symm (owe3 c)
      (above_owe3 c (by rw [show lvl (kcell (c, 2)) () = 0 from lvl_other c sendS recv_ne_send.symm ()]; omega))) $$ [Hc Ho Hat]
    · isplitr; · iexact HR
      isplitr; · iexact Hlev
      isplitl [Hc]; · iexact Hc
      isplitl [Ho]; · iexact Ho
      iexact Hat
    iintro ⟨Ho, Hz, Hp⟩
    ihave Hp' := (Entails.of_eq (all_send m c h)) $$ Hp
    unfold exec; rw [wp_ret]; imodintro
    iapply Hk
    isplitl [Ho]; · iexact Ho
    isplitl [Hz]; · iexact Hz
    iexact Hp'
  · rw [dif_neg (fun h' => h ((sends_iff c).mp h')), Prog.pure_eq_ret]
    unfold exec; rw [wp_ret]
    have hc : c.val < 16 := c.isLt
    have ho : owe2 c = owe3 c := by
      unfold owe2 amt
      rw [if_neg (by show ¬ 0 < (c.val + 1) % 16; omega), tallyAt_zero, add_zero]
    rw [ho]
    iintro ⟨#HR, -, H1, -, Ho, Hat, -, -⟩ Hk
    imod (close_unused m K c 2 (by show dutiesAt (sendCell c) = ∅; rw [dutiesAt_send, if_neg h])) $$ [Hat] with Hz
    · isplitr; · iexact HR
      iexact Hat
    imodintro
    iapply Hk
    isplitl [Ho]; · iexact Ho
    isplitl [Hz]; · iexact Hz
    iexact H1

theorem part2 {α : Type} {Q : α → sProp 𝕄} (K : Dev nD × Fin 4 → ℕ) (c : Dev nD) (v5 v7 : BitVec 32)
    (k : (Σ' (v31 : FVec F S256x16x256 .f32) (v53 : FVec F S4x16x256 .f32) (v67 : FVec F S256x4x16x256 .f32), FVec F S16x256 .bf16)
      → Prog (TpuEff nD τ sig (Elt F) Λ₀ .tc) α) :
    iprop(records m K ∗ levAts lev lvl ∗ kept c ∗ free slot1 c ∗ lend (nxt c) ∗ owing c (owe2 c)
        ∗ cred (tallyAt (recvCell c) () (amt c)) ∗ atPos ER (recvCell c) 0 ∅ 0 ∗ atPos ER (sendCell c) 0 ∅ 0
        ∗ dutyTok ER (sendCell c) 0 false ∗ dutyTok ER (recvCell (nxt c)) 0 false)
      ⊢ iprop(((owing c (owe3 c) ∗ semVal (recvCell c) 0 ∗ semVal (sendCell c) 0 ∗ free slot0 c ∗ free slot1 c)
          -∗ exec c (k ⟨k0_pay7 (F := F), k0_pay9 (stateIn m c), k0_pay11 (aT m c) (inp m c), k0_pay12 (aT m c)⟩) Q)
        -∗ exec c (k0_part2 xM (Memref.isWhole_whole _) aM (Memref.isWhole_whole _) bM (Memref.isWhole_whole _) cM (Memref.isWhole_whole _)
            oM (Memref.isWhole_whole _) scM (Memref.isWhole_whole _) cc0_scratch1 cc0_scratch2 cc0_scoped0 c
            (Scalar.remsi (Scalar.divsi (Dev.word c) 1#32) 16#32) v5 v7 (aT m c) (inp m c) >>= k) Q) := by
  rw [show Scalar.remsi (Scalar.divsi (Dev.word c) 1#32) 16#32 = place c from rfl, part2_stages]
  simp only [exec, wp_bind]
  iintro ⟨#HR, #Hlev, Hkept, H1, Hl, Ho, Hc, HatV, HatS, HtS, HtV⟩ Hk
  iapply (fill_stage m c) $$ Hkept
  iintro H0
  iapply (recv_stage m K c) $$ [Hc Ho HatV H0]
  · isplitr; · iexact HR
    isplitr; · iexact Hlev
    isplitl [Hc]; · iexact Hc
    isplitl [Ho]; · iexact Ho
    isplitl [HatV]; · iexact HatV
    iexact H0
  iintro ⟨Ho, HzV, H0⟩
  simp only [Prog.lift]
  unfold held
  icases H0 with ⟨%f, %hf, H0⟩
  iapply (wp_load_rect 𝒱₀ (c : Thread nD τ) none Set.univ (m := scM) (r := rect0) (Finset.Subset.refl _)) $$ H0; iintro H0
  rw [hf, wp_ret]; imodintro
  iapply (send_stage m K c) $$ [H1 Hl Ho HatS HtS HtV]
  · isplitr; · iexact HR
    isplitr; · iexact Hlev
    isplitl [H1]; · iexact H1
    isplitl [Hl]; · iexact Hl
    isplitl [Ho]; · iexact Ho
    isplitl [HatS]; · iexact HatS
    isplitl [HtS]; · iexact HtS
    iexact HtV
  iintro ⟨Ho, HzS, H1⟩
  rw [Prog.pure_eq_ret, wp_ret]; imodintro
  iapply Hk
  isplitl [Ho]; · iexact Ho
  isplitl [HzV]; · iexact HzV
  isplitl [HzS]; · iexact HzS
  isplitl [H0]; · unfold free; iexists f; iexact H0
  iexact H1

/-! ## The output -/

/-- The scan of a device's own inputs before its last two steps, the shifted half of the step before them, and the
    device's result, time by batch by channel. -/
def scanA (c : Dev nD) : FVec F S256x4x16x256 .f32 := k0_pay13 (aT m c) (k0_pay11 (aT m c) (inp m c)) (k0_pay12 (aT m c))
def scanB (c : Dev nD) : FVec F S256x4x16x256 .f32 := k0_pay14 (aT m c) (k0_pay11 (aT m c) (inp m c)) (k0_pay12 (aT m c))
def res (c : Dev nD) : FVec F S256x4x256 .f32 := k0_pay15 (aT m c) (wOut m c) k0_pay7 (k0_pay9 (stateIn m c)) (scanA m c) (scanB m c)

/-- What is stored for each of the four batches. -/
def batch0 (c : Dev nD) : FVec F S1x256x256 .f32 := k0_pay16 (aT m c) (wOut m c) k0_pay7 (k0_pay9 (stateIn m c)) (scanA m c) (scanB m c)
def batch1 (c : Dev nD) : FVec F S1x256x256 .f32 := k0_pay1 (k0_pay17 (aT m c) (wOut m c) k0_pay7 (k0_pay9 (stateIn m c)) (scanA m c) (scanB m c))
def batch2 (c : Dev nD) : FVec F S1x256x256 .f32 := k0_pay2 (res m c)
def batch3 (c : Dev nD) : FVec F S1x256x256 .f32 := k0_pay3 (res m c)

set_option backward.proofsInPublic true in
/-- An index of the output, as an index of its batch. -/
def inBatch (i : S4x256x256.Idx) : S1x256x256.Idx := fun a => match a with
  | ⟨0, _⟩ => ⟨0, Nat.one_pos⟩
  | ⟨1, _⟩ => i 1
  | ⟨2, _⟩ => i 2

def outAt (c : Dev nD) : (cc0_stg4_0 : Ref sig .tc).ty.Contents (Elt F) := fun (i : S4x256x256.Idx) =>
  if (i 0 : Nat) = 0 then batch0 m c (inBatch i)
  else if (i 0 : Nat) = 1 then batch1 m c (inBatch i)
  else if (i 0 : Nat) = 2 then batch2 m c (inBatch i)
  else batch3 m c (inBatch i)

abbrev brect0 : Rect S4x256x256 := Rect.unit (s := S4x256x256) ![0, 0, 0] S1x256x256.size inb_S4x256x256_S1x256x256_0_0_0
abbrev brect1 : Rect S4x256x256 := Rect.unit (s := S4x256x256) ![1, 0, 0] S1x256x256.size inb_S4x256x256_S1x256x256_1_0_0
abbrev brect2 : Rect S4x256x256 := Rect.unit (s := S4x256x256) ![2, 0, 0] S1x256x256.size inb_S4x256x256_S1x256x256_2_0_0
abbrev brect3 : Rect S4x256x256 := Rect.unit (s := S4x256x256) ![3, 0, 0] S1x256x256.size inb_S4x256x256_S1x256x256_3_0_0

/-- A store of one batch changes that batch and no other. -/
theorem write_batch (b : Nat) (h : ∀ a, (![b, 0, 0] : Fin 3 → Nat) a + S1x256x256.size a ≤ S4x256x256.size a)
    (f : (cc0_stg4_0 : Ref sig .tc).ty.Contents (Elt F)) (w : FVec F S1x256x256 .f32) (i : S4x256x256.Idx) :
    (oM.access (Rect.unit (s := S4x256x256) ![b, 0, 0] S1x256x256.size h)).write (Elt F) f w Finset.univ i
      = if (i 0 : Nat) = b then w (inBatch i) else f i := by
  by_cases hi : (i 0 : Nat) = b
  · rw [if_pos hi]
    have e : (oM.access (Rect.unit (s := S4x256x256) ![b, 0, 0] S1x256x256.size h)).emb (inBatch i) = i := by
      funext a
      apply Fin.ext
      fin_cases a
      · show b + 1 * 0 = (i 0 : Nat); omega
      · show 0 + 1 * (i 1 : Nat) = (i 1 : Nat); omega
      · show 0 + 1 * (i 2 : Nat) = (i 2 : Nat); omega
    conv_lhs => rw [← e]
    rw [View.write_emb_of_mem _ _ (Finset.mem_univ _)]; rfl
  · rw [if_neg hi]
    refine View.write_of_not_mem _ _ _ fun hm => hi ?_
    rw [View.setOn_univ] at hm
    have := (ValueKit.mem_set_slice_whole_iff cc0_stg4_0 (Rect.unit (s := S4x256x256) ![b, 0, 0] S1x256x256.size h) i Rect.mem_set_unit).mp hm
    have h0 := this 0
    have h1 : b ≤ (i 0 : Nat) := h0.1
    have h2 : (i 0 : Nat) < b + 1 := h0.2
    omega

/-- The four stores make the output, whatever was there. -/
theorem out_written (c : Dev nD) (f : (cc0_stg4_0 : Ref sig .tc).ty.Contents (Elt F)) :
    (oM.access brect3).write (Elt F) ((oM.access brect2).write (Elt F) ((oM.access brect1).write (Elt F)
      ((oM.access brect0).write (Elt F) f (batch0 m c) Finset.univ) (batch1 m c) Finset.univ) (batch2 m c) Finset.univ) (batch3 m c) Finset.univ = outAt m c := by
  funext (i : S4x256x256.Idx)
  rw [write_batch 3, write_batch 2, write_batch 1, write_batch 0]
  unfold outAt
  have hi : (i 0 : Nat) < 4 := (i 0).isLt
  by_cases h0 : (i 0 : Nat) = 0
  · rw [if_neg (by omega), if_neg (by omega), if_neg (by omega), if_pos h0, if_pos h0]
  by_cases h1 : (i 0 : Nat) = 1
  · rw [if_neg (by omega), if_neg (by omega), if_pos h1, if_neg h0, if_pos h1]
  by_cases h2 : (i 0 : Nat) = 2
  · rw [if_neg (by omega), if_pos h2, if_neg h0, if_neg h1, if_pos h2]
  rw [if_pos (by omega), if_neg h0, if_neg h1, if_neg h2]

/-! ## The whole body -/

/-- A device's positions, and the tokens of the duties it pays. -/
def linear (c : Dev nD) : sProp 𝕄 :=
  iprop((atPos ER (barCell c) 0 ∅ 0 ∗ atPos ER (endCell c) 0 ∅ 0 ∗ atPos ER (sendCell c) 0 ∅ 0 ∗ atPos ER (recvCell c) 0 ∅ 0)
    ∗ dutyTok ER (barCell (prv c)) 0 true ∗ dutyTok ER (barCell (nxt c)) 0 false
    ∗ dutyTok ER (endCell (prv c)) 0 true ∗ dutyTok ER (endCell (nxt c)) 0 false
    ∗ dutyTok ER (recvCell (nxt c)) 0 false ∗ dutyTok ER (sendCell c) 0 false)

/-- What a device's body starts from beside its scratch, and what it ends with. -/
def start (c : Dev nD) : sProp 𝕄 :=
  iprop((∃ K, records m K ∗ linear c) ∗ cred (tallyAt (barCell c) () 2) ∗ cred (tallyAt (endCell c) () 2) ∗ cred (tallyAt (recvCell c) () (amt c)) ∗ levAts lev lvl)
def scratch (c : Dev nD) : sProp 𝕄 := iprop(∃ f : Buf (Elt F) ((c : Thread nD τ).loc cc0_scratch0), ((c : Thread nD τ).loc cc0_scratch0) ↦{fullShare} f)
def before (c : Dev nD) : sProp 𝕄 := iprop(start m c ∗ scratch c)
def done (c : Dev nD) : sProp 𝕄 :=
  iprop(scratch c ∗ semVal (barCell c) 0 ∗ semVal (endCell c) 0 ∗ semVal (sendCell c) 0 ∗ semVal (recvCell c) 0)

/-- A device's slot 0 goes into what it lends or what it keeps. -/
theorem deal_slot (K : Dev nD × Fin 4 → ℕ) (c : Dev nD) : iprop(records m K ∗ free slot0 c) ⊢ iprop(lend c ∗ kept c) := by
  unfold lend kept
  by_cases h : 0 < c.val
  · rw [if_pos h, if_pos h]
    iintro ⟨#HR, H⟩
    isplitl
    · isplitl [H]; · iexact H
      iapply (records_reached m K (c, 3)); iexact HR
    · iempintro
  · rw [if_neg h, if_neg h]
    iintro ⟨-, H⟩
    isplitr; · iempintro
    iexact H

theorem body_run (c : Dev nD) (f : Buf (Elt F) ((c : Thread nD τ).loc cc0_stg4_0)) (Q : PUnit → sProp 𝕄) :
    iprop(before m c ∗ owing c (owe0 c)
        ∗ stg c cc0_stg0_0 (xIn m c) ∗ stg c cc0_stg1_0 (aIn m c) ∗ stg c cc0_stg2_0 (bIn m c) ∗ stg c cc0_stg3_0 (cIn m c) ∗ stg c cc0_stg4_0 f)
      ⊢ iprop(((done c ∗ owing c 0
            ∗ stg c cc0_stg0_0 (xIn m c) ∗ stg c cc0_stg1_0 (aIn m c) ∗ stg c cc0_stg2_0 (bIn m c) ∗ stg c cc0_stg3_0 (cIn m c) ∗ stg c cc0_stg4_0 (outAt m c)) -∗ Q ⟨⟩)
        -∗ exec c (cc0_body xM (Memref.isWhole_whole _) aM (Memref.isWhole_whole _) bM (Memref.isWhole_whole _) cM (Memref.isWhole_whole _)
            oM (Memref.isWhole_whole _) scM (Memref.isWhole_whole _) cc0_scratch1 cc0_scratch2 cc0_scoped0) Q) := by
  simp only [cc0_body_eq_skeleton]; unfold cc0_body_skel
  unfold before start linear scratch
  iintro ⟨⟨⟨⟨%K, #HR, ⟨HatB, HatE, HatS, HatV⟩, HtBP, HtBN, HtEP, HtEN, HtV, HtS⟩, HcB, HcE, HcV, #Hlev⟩, ⟨%g, Hscr⟩⟩, Ho, Hx, Ha, Hb, Hc, Hout⟩ Hk
  ihave Hslots := (scratch_split c g) $$ Hscr
  icases Hslots with ⟨H0, H1⟩
  ihave Hd := (deal_slot m K c) $$ [H0]
  · isplitr; · iexact HR
    iexact H0
  icases Hd with ⟨Hlend, Hkept⟩
  iapply (part1 m K c _) $$ [Ho Hlend HtBP HtBN HcB HatB Hx Ha Hb Hc]
  · isplitr; · iexact HR
    isplitr; · iexact Hlev
    isplitl [Ho]; · iexact Ho
    isplitl [Hlend]; · iexact Hlend
    isplitl [HtBP]; · iexact HtBP
    isplitl [HtBN]; · iexact HtBN
    isplitl [HcB]; · iexact HcB
    isplitl [HatB]; · iexact HatB
    isplitl [Hx]; · iexact Hx
    isplitl [Ha]; · iexact Ha
    isplitl [Hb]; · iexact Hb
    iexact Hc
  iintro ⟨Ho, Hlend, HzB, Hx, Ha, Hb, Hc⟩ %v5 %v7
  dsimp only
  iapply (part2 m K c v5 v7 _) $$ [Hkept H1 Hlend Ho HcV HatV HatS HtS HtV]
  · isplitr; · iexact HR
    isplitr; · iexact Hlev
    isplitl [Hkept]; · iexact Hkept
    isplitl [H1]; · iexact H1
    isplitl [Hlend]; · iexact Hlend
    isplitl [Ho]; · iexact Ho
    isplitl [HcV]; · iexact HcV
    isplitl [HatV]; · iexact HatV
    isplitl [HatS]; · iexact HatS
    isplitl [HtS]; · iexact HtS
    iexact HtV
  iintro ⟨Ho, HzV, HzS, H0, H1⟩
  simp only [k0_part3_eq_skeleton, k0_part4_eq_skeleton]; unfold k0_part3_skel k0_part4_skel
  simp only [semSignalWord, semWaitWord, Prog.lift, Prog.bind_op, Prog.bind_ret, Prog.pure_eq_ret, dev4_eq, dev5_eq]
  iapply (wp_load_rect 𝒱₀ (c : Thread nD τ) none Set.univ (m := oM) (r := brect0) (Finset.subset_univ _)) $$ Hout; iintro Hout
  iapply (wp_store 𝒱₀ (c : Thread nD τ) none Set.univ (m := oM) (r := brect0) (Mk := Finset.univ) (Finset.subset_univ _)) $$ Hout; iintro Hout
  iapply (wp_load_rect 𝒱₀ (c : Thread nD τ) none Set.univ (m := oM) (r := brect1) (Finset.subset_univ _)) $$ Hout; iintro Hout
  iapply (wp_store 𝒱₀ (c : Thread nD τ) none Set.univ (m := oM) (r := brect1) (Mk := Finset.univ) (Finset.subset_univ _)) $$ Hout; iintro Hout
  iapply (wp_load_rect 𝒱₀ (c : Thread nD τ) none Set.univ (m := oM) (r := brect2) (Finset.subset_univ _)) $$ Hout; iintro Hout
  iapply (wp_store 𝒱₀ (c : Thread nD τ) none Set.univ (m := oM) (r := brect2) (Mk := Finset.univ) (Finset.subset_univ _)) $$ Hout; iintro Hout
  iapply (wp_load_rect 𝒱₀ (c : Thread nD τ) none Set.univ (m := oM) (r := brect3) (Finset.subset_univ _)) $$ Hout; iintro Hout
  iapply (wp_store 𝒱₀ (c : Thread nD τ) none Set.univ (m := oM) (r := brect3) (Mk := Finset.univ) (Finset.subset_univ _)) $$ Hout; iintro Hout
  unfold owe3
  iapply (raise m K c (prv c) endS 1 rfl true (by rw [duties_end]; exact Finset.mem_univ _) (owe4 c)) $$ [Ho HtEP]
  · isplitr; · iexact HR
    isplitl [Ho]; · iexact Ho
    isplitl [HtEP]; · iexact HtEP
    rw [pay_end]; iempintro
  iintro Ho
  unfold owe4
  iapply (raise m K c (nxt c) endS 1 rfl false (by rw [duties_end]; exact Finset.mem_univ _) 0) $$ [Ho HtEN]
  · isplitr; · iexact HR
    isplitl [Ho]; · iexact Ho
    isplitl [HtEN]; · iexact HtEN
    rw [pay_end]; iempintro
  iintro Ho
  iapply (await m K c 1 (2#32).toNat (wpE_semWait_eq 𝒱₀ (c : Thread nD τ) none Set.univ) (expect_end m c).symm 0 (above_zero _)) $$ [HcE Ho HatE]
  · isplitr; · iexact HR
    isplitr; · iexact Hlev
    isplitl [HcE]; · iexact HcE
    isplitl [Ho]; · iexact Ho
    iexact HatE
  iintro ⟨Ho, HzE, -⟩
  unfold exec; rw [wp_ret]; imodintro
  iapply Hk
  unfold done scratch
  isplitl [H0 H1 HzB HzE HzS HzV]
  · isplitl [H0 H1]
    · iapply (scratch_join c)
      isplitl [H0]; · iexact H0
      iexact H1
    isplitl [HzB]; · iexact HzB
    isplitl [HzE]; · iexact HzE
    isplitl [HzS]; · iexact HzS
    iexact HzV
  isplitl [Ho]; · iexact Ho
  isplitl [Hx]; · iexact Hx
  isplitl [Ha]; · iexact Ha
  isplitl [Hb]; · iexact Hb
  isplitl [Hc]; · iexact Hc
  rw [← out_written m c f]; iexact Hout

end Cert.KernelIdeal.Chain
-- ==== Proof.KernelIdeal.Launch.lean ====
/-
The launch: the body's obligation to the pipeline, the cells allocated for all sixteen devices at once, the tokens dealt
around the circle, and the run of the whole program.
-/
module

public import proofs.«01_k».proof.Proof.KernelIdeal.Body
public import Idealize.ShloMosaic.Lib.Pipeline.CollectiveSegs
public import Idealize.ShloMosaic.Lib.Pipeline.ValueKit.Geometry

@[expose] public section

noncomputable section

namespace Cert.KernelIdeal.Chain

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ)

/-! ## The pipeline's data -/

/-- The one point's data: the inputs stay, the output is `outAt`; the chain's resources before the point and after it. -/
def dats (_ : Fin 1) (c : Dev nD) : Dat τ (Elt F) Unit ℕ UU ℕ cfg0 c where
  A w := m ((cfg0.win w).arr.view.loc (c : Thread nD τ))
  after w _ := match w with
    | ⟨0, _⟩ => xIn m c
    | ⟨1, _⟩ => aIn m c
    | ⟨2, _⟩ => bIn m c
    | ⟨3, _⟩ => cIn m c
    | ⟨4, _⟩ => outAt m c
  Φ t := match t with
    | ⟨0, _⟩ => before m c
    | ⟨_ + 1, _⟩ => done c
  q _ := fullShare
  owed t := match t with
    | ⟨0, _⟩ => owe0 c
    | ⟨_ + 1, _⟩ => 0

/-- A whole buffer owned at known contents is the points-to of those contents. -/
theorem owns_stg (c : Dev nD) (b : Ref sig .tc) (X : b.ty.Contents (Elt F)) :
    (owns (Ix := Unit) (Name := ℕ) (U := UU) (Lvl := ℕ) (c : Thread nD τ) (Memref.whole b) fullShare X : sProp 𝕄) ⊢ stg c b X := by
  unfold owns; simp only [Memref.view_whole, View.read_whole, View.set_whole]
  iintro ⟨%f, %hf, H⟩; subst hf; iexact H
theorem stg_owns (c : Dev nD) (b : Ref sig .tc) (X : b.ty.Contents (Elt F)) :
    stg c b X ⊢ (owns (Ix := Unit) (Name := ℕ) (U := UU) (Lvl := ℕ) (c : Thread nD τ) (Memref.whole b) fullShare X : sProp 𝕄) := by
  unfold owns; simp only [Memref.view_whole, View.read_whole, View.set_whole]
  iintro H; iexists X
  isplitr; · (ipureintro; rfl)
  iexact H

/-- The pipeline's view of a staging buffer. -/
abbrev owned (c : Dev nD) (b : Ref sig .tc) (X : b.ty.Contents (Elt F)) : sProp 𝕄 :=
  owns (Ix := Unit) (Name := ℕ) (U := UU) (Lvl := ℕ) (c : Thread nD τ) (Memref.whole b) fullShare X

def entry (c : Dev nD) : sProp 𝕄 :=
  iprop(before m c ∗ (dats m 0 c).owesAt () t0_0.castSucc
    ∗ (∃ d, owned c cc0_stg0_0 ((dats m 0 c).before (0 : Fin 5) t0_0 d))
    ∗ (∃ d, owned c cc0_stg1_0 ((dats m 0 c).before (1 : Fin 5) t0_0 d))
    ∗ (∃ d, owned c cc0_stg2_0 ((dats m 0 c).before (2 : Fin 5) t0_0 d))
    ∗ (∃ d, owned c cc0_stg3_0 ((dats m 0 c).before (3 : Fin 5) t0_0 d))
    ∗ (∃ d, owned c cc0_stg4_0 ((dats m 0 c).before (4 : Fin 5) t0_0 d)))
def exit (c : Dev nD) : sProp 𝕄 :=
  iprop(done c ∗ (dats m 0 c).owesAt () t0_0.succ
    ∗ owned c cc0_stg0_0 (xIn m c) ∗ owned c cc0_stg1_0 (aIn m c) ∗ owned c cc0_stg2_0 (bIn m c) ∗ owned c cc0_stg3_0 (cIn m c)
    ∗ owned c cc0_stg4_0 (outAt m c))

theorem before_x (c : Dev nD) (d) : (dats m 0 c).before (0 : Fin 5) t0_0 d = xIn m c := by unfold Dat.before; rw [if_pos (fetch0_0 t0_0)]; rfl
theorem before_a (c : Dev nD) (d) : (dats m 0 c).before (1 : Fin 5) t0_0 d = aIn m c := by unfold Dat.before; rw [if_pos (fetch0_1 t0_0)]; rfl
theorem before_b (c : Dev nD) (d) : (dats m 0 c).before (2 : Fin 5) t0_0 d = bIn m c := by unfold Dat.before; rw [if_pos (fetch0_2 t0_0)]; rfl
theorem before_c (c : Dev nD) (d) : (dats m 0 c).before (3 : Fin 5) t0_0 d = cIn m c := by unfold Dat.before; rw [if_pos (fetch0_3 t0_0)]; rfl

theorem entry_exit (c : Dev nD) :
    entry m c ⊢ exec c (cc0_body xM (Memref.isWhole_whole _) aM (Memref.isWhole_whole _) bM (Memref.isWhole_whole _) cM (Memref.isWhole_whole _)
      oM (Memref.isWhole_whole _) scM (Memref.isWhole_whole _) cc0_scratch1 cc0_scratch2 cc0_scoped0) (fun _ => exit m c) := by
  unfold entry exit
  simp only [before_x, before_a, before_b, before_c]
  unfold Dat.owesAt Pipeline.owesWithin
  rw [show (dats m 0 c).owed t0_0.castSucc = owe0 c from rfl, show (dats m 0 c).owed t0_0.succ = 0 from rfl]
  iintro ⟨Hb, ⟨%W, %hW, Ho⟩, ⟨%d0, H0⟩, ⟨%d1, H1⟩, ⟨%d2, H2⟩, ⟨%d3, H3⟩, ⟨%d4, H4⟩⟩
  ihave H0 := (owns_stg c cc0_stg0_0 _) $$ H0
  ihave H1 := (owns_stg c cc0_stg1_0 _) $$ H1
  ihave H2 := (owns_stg c cc0_stg2_0 _) $$ H2
  ihave H3 := (owns_stg c cc0_stg3_0 _) $$ H3
  ihave H4 := (owns_stg c cc0_stg4_0 _) $$ H4
  iapply (body_run m c _ _) $$ [Hb Ho H0 H1 H2 H3 H4]
  · isplitl [Hb]; · iexact Hb
    isplitl [Ho]; · unfold owing; iexists W; iexact Ho
    isplitl [H0]; · iexact H0
    isplitl [H1]; · iexact H1
    isplitl [H2]; · iexact H2
    isplitl [H3]; · iexact H3
    iexact H4
  unfold owing
  iintro ⟨Hd, ⟨%W', Ho⟩, H0, H1, H2, H3, H4⟩
  isplitl [Hd]; · iexact Hd
  isplitl [Ho]
  · iexists W'
    isplitr; · (ipureintro; exact fun _ _ => Or.inl trivial)
    iexact Ho
  isplitl [H0]; · iapply (stg_owns c cc0_stg0_0 _); iexact H0
  isplitl [H1]; · iapply (stg_owns c cc0_stg1_0 _); iexact H1
  isplitl [H2]; · iapply (stg_owns c cc0_stg2_0 _); iexact H2
  isplitl [H3]; · iapply (stg_owns c cc0_stg3_0 _); iexact H3
  iapply (stg_owns c cc0_stg4_0 _); iexact H4

set_option maxRecDepth 4000 in
/-- The library's obligation for the body on device `c`. -/
theorem body_obligation (c : Dev nD) : BodyObligation (dats (F := F) m 0 c) (defs₀ (F := F)) 𝒱₀ () Set.univ := fun t => by
  rw [fin_N0 t]
  rw [bigSep_W0, bigSep_W0]
  exact entry_exit m c

/-! ## The cells and the tokens at launch -/

theorem own_sems : Pipeline.OwnSemFacts cfg0.spec osem := by decide

theorem full_share (c : Dev nD) (w : Fin cfg0.W) : (dats m 0 c).share w = fullShare := by unfold Dat.share; split <;> rfl

theorem csem_injective : Function.Injective csem := by
  intro k k' h
  fin_cases k <;> fin_cases k' <;> first | rfl | exact absurd h (by decide)
theorem kcell_injective : Function.Injective (kcell : Dev nD × Fin 4 → GSem nD τ sig) := by
  rintro ⟨c, k⟩ ⟨c', k'⟩ h
  have hc : c = c' := congrArg (fun g : GSem nD τ sig => g.1.1) h
  have hk : k = k' := csem_injective (congrArg Prod.snd h)
  rw [hc, hk]
def chainCells : Finset (GSem nD τ sig) := Finset.univ.map ⟨kcell, kcell_injective⟩

/-- The duties a device's cells have tokens for: both of the barrier's and of the last semaphore's, and one each of the
    send's and the receive's. -/
abbrev dutyOf : Fin 6 → Fin 4 × Bool := fun | 0 => (0, false) | 1 => (0, true) | 2 => (1, false) | 3 => (1, true) | 4 => (2, false) | 5 => (3, false)
abbrev tokOf (cj : Dev nD × Fin 6) : GSem nD τ sig × ℕ × Bool := (kcell (cj.1, (dutyOf cj.2).1), 0, (dutyOf cj.2).2)
theorem dutyOf_injective : Function.Injective dutyOf := by decide
theorem tokOf_injective : Function.Injective (tokOf : Dev nD × Fin 6 → GSem nD τ sig × ℕ × Bool) := by
  rintro ⟨c, j⟩ ⟨c', j'⟩ h
  have h1 := kcell_injective (congrArg Prod.fst h)
  have h2 : (dutyOf j).2 = (dutyOf j').2 := congrArg (fun x => x.2.2) h
  have hj : j = j' := dutyOf_injective (Prod.ext (congrArg Prod.snd h1) h2)
  rw [show c = c' from congrArg Prod.fst h1, hj]
def chainToks : Finset (GSem nD τ sig × ℕ × Bool) := Finset.univ.map ⟨tokOf, tokOf_injective⟩

def u₀ : UU := (initOf (Pipeline.cells cfgs cellOf_inj) (Pipeline.launchToks cfgs cellOf_inj), initOf chainCells chainToks)

/-- The tokens of the duties of device `c`'s own cells. -/
def ownToks (c : Dev nD) : sProp 𝕄 :=
  iprop(dutyTok ER (barCell c) 0 false ∗ dutyTok ER (barCell c) 0 true ∗ dutyTok ER (endCell c) 0 false ∗ dutyTok ER (endCell c) 0 true
    ∗ dutyTok ER (sendCell c) 0 false ∗ dutyTok ER (recvCell c) 0 false)

/-- What the launch deals a device, and what a device has once all cells are shared. -/
def dealt (c : Dev nD) : sProp 𝕄 :=
  iprop((bigSep Finset.univ fun k : Fin 4 => roundState ER (plan m) (kcell (c, k)) 0)
    ∗ (bigSep Finset.univ fun k : Fin 4 => iprop(atPos ER (kcell (c, k)) 0 ∅ 0 ∗ reached ER (kcell (c, k)) 0)) ∗ ownToks c)
def shared (c : Dev nD) : sProp 𝕄 := iprop(∃ K, records m K ∗ linear c)

theorem bigSep_four (Φ : Fin 4 → sProp 𝕄) : bigSep Finset.univ Φ = iprop(Φ 0 ∗ Φ 1 ∗ Φ 2 ∗ Φ 3) := bigSep_univ_eq_bigSepL [0, 1, 2, 3] (by decide) (by decide) Φ
theorem bigSep_six (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

theorem deal : BI.own (ER (initOf chainCells chainToks)) ⊢ (|==> bigSep Finset.univ (dealt m) : sProp 𝕄) := by
  have byDevice (Φ : GSem nD τ sig → sProp 𝕄) : bigSep chainCells Φ = bigSep Finset.univ fun c : Dev nD => bigSep Finset.univ fun k : Fin 4 => Φ (kcell (c, k)) := by
    unfold chainCells; rw [bigSep_map, bigSep_univ_prod]; rfl
  have toksByDevice : bigSep chainToks (fun x => (dutyTok ER x.1 x.2.1 x.2.2 : sProp 𝕄)) = bigSep Finset.univ fun c : Dev nD => ownToks c := by
    unfold chainToks; rw [bigSep_map, bigSep_univ_prod]
    exact bigSep_congr fun c _ => by unfold ownToks; rw [bigSep_six]; rfl
  iintro H
  imod (Rounds.fund ER (plan m) chainCells chainToks) $$ H with ⟨Hst, Hr, Hat, Htok⟩
  imodintro
  ihave Hst := (Entails.of_eq (byDevice fun g => roundState ER (plan m) g 0)) $$ Hst
  ihave Hat := (Entails.of_eq (byDevice fun g => atPos ER g 0 ∅ 0)) $$ Hat
  ihave Hr := (Entails.of_eq (byDevice fun g => reached ER g 0)) $$ Hr
  ihave Htok := (Entails.of_eq toksByDevice) $$ Htok
  unfold dealt; simp only [bigSep_sep']
  isplitl [Hst]; · iexact Hst
  isplitl [Hat Hr]
  · isplitl [Hat]; · iexact Hat
    iexact Hr
  iexact Htok

theorem own_sems_eq (c : Dev nD) : (Pipeline.ownSems0 (Ix := Unit) (Name := ℕ) (U := UU) (Lvl := ℕ) (Val := Elt F) (τ := τ) osem c : sProp 𝕄)
    = iprop(semVal (endCell c) 0 ∗ semVal (sendCell c) 0 ∗ semVal (recvCell c) 0) := by
  rw [Pipeline.ownSems0_eq_of_list c osem [0, 1, 2] (by decide) (by decide)]; rfl
theorem free_sems_eq (c : Dev nD) : (unscopedSems0 c : sProp 𝕄) = semVal (barCell c) 0 := by
  unfold unscopedSems0; rw [bigSep_eq_bigSepL_of_eq [SemLoc.reg barS] (by decide) (by decide)]; rfl

/-- One device's four counters at zero and its cells' states, made invariants. -/
theorem share_device (c : Dev nD) :
    iprop(Pipeline.ownSems0 (Ix := Unit) (Name := ℕ) (U := UU) (Lvl := ℕ) (Val := Elt F) (τ := τ) osem c ∗ unscopedSems0 c ∗ dealt m c)
      ⊢ |={Set.univ}=> iprop((bigSep Finset.univ fun k => iprop(∃ κ : ℕ, cellInv ER (plan m) κ (kcell (c, k))))
          ∗ (bigSep Finset.univ fun k => iprop(atPos ER (kcell (c, k)) 0 ∅ 0 ∗ reached ER (kcell (c, k)) 0)) ∗ ownToks c) := by
  have alloc : iprop((bigSep Finset.univ fun k : Fin 4 => semVal (kcell (c, k)) 0) ∗ bigSep Finset.univ fun k : Fin 4 => roundState ER (plan m) (kcell (c, k)) 0)
      ⊢ (|={Set.univ}=> bigSep Finset.univ fun k => iprop(∃ κ : ℕ, cellInv ER (plan m) κ (kcell (c, k))) : sProp 𝕄) := by
    rw [← bigSep_sep']
    exact (bigSep_mono fun k _ => (Rounds.body_intro ER (plan m) (kcell (c, k))).trans inv_alloc).trans (bigSep_fupd _ _)
  unfold dealt
  rw [own_sems_eq, free_sems_eq]
  iintro ⟨⟨HE, HS, HV⟩, HB, Hst, Hat, Htok⟩
  imod alloc $$ [HE HS HV HB Hst] with Hinv
  · isplitl [HE HS HV HB]
    · rw [bigSep_four]
      isplitl [HB]; · iexact HB
      isplitl [HE]; · iexact HE
      isplitl [HS]; · iexact HS
      iexact HV
    iexact Hst
  imodintro
  isplitl [Hinv]; · iexact Hinv
  isplitl [Hat]; · iexact Hat
  iexact Htok

/-- The tokens a device pays with, out of all devices' own ones: each neighbour's, handed along the circle. -/
def payToks (c : Dev nD) : sProp 𝕄 :=
  iprop(dutyTok ER (barCell (prv c)) 0 true ∗ dutyTok ER (barCell (nxt c)) 0 false
    ∗ dutyTok ER (endCell (prv c)) 0 true ∗ dutyTok ER (endCell (nxt c)) 0 false
    ∗ dutyTok ER (recvCell (nxt c)) 0 false ∗ dutyTok ER (sendCell c) 0 false)
theorem hand_tokens : (bigSep Finset.univ fun c : Dev nD => (ownToks c : sProp 𝕄)) ⊢ bigSep Finset.univ fun c : Dev nD => payToks c := by
  unfold ownToks payToks
  simp only [bigSep_sep']
  rw [bigSep_univ_equiv circle (fun c : Dev nD => (dutyTok ER (barCell c) 0 false : sProp 𝕄)),
    bigSep_univ_equiv circle.symm (fun c : Dev nD => (dutyTok ER (barCell c) 0 true : sProp 𝕄)),
    bigSep_univ_equiv circle (fun c : Dev nD => (dutyTok ER (endCell c) 0 false : sProp 𝕄)),
    bigSep_univ_equiv circle.symm (fun c : Dev nD => (dutyTok ER (endCell c) 0 true : sProp 𝕄)),
    bigSep_univ_equiv circle (fun c : Dev nD => (dutyTok ER (recvCell c) 0 false : sProp 𝕄))]
  iintro ⟨Hbf, Hbt, Hef, Het, Hs, Hr⟩
  isplitl [Hbt]; · iexact Hbt
  isplitl [Hbf]; · iexact Hbf
  isplitl [Het]; · iexact Het
  isplitl [Hef]; · iexact Hef
  isplitl [Hr]; · iexact Hr
  iexact Hs

theorem share_all :
    (bigSep Finset.univ fun c : Dev nD => iprop((bigSep Finset.univ fun k => iprop(∃ κ : ℕ, cellInv ER (plan m) κ (kcell (c, k))))
          ∗ (bigSep Finset.univ fun k => iprop(atPos ER (kcell (c, k)) 0 ∅ 0 ∗ reached ER (kcell (c, k)) 0)) ∗ ownToks c) : sProp 𝕄)
      ⊢ bigSep Finset.univ (shared m) := by
  have each (K : Dev nD × Fin 4 → ℕ) (c : Dev nD) :
      iprop(records m K ∗ ((bigSep Finset.univ fun k : Fin 4 => (atPos ER (kcell (c, k)) 0 ∅ 0 : sProp 𝕄)) ∗ payToks c)) ⊢ shared m c := by
    unfold shared linear payToks; rw [bigSep_four]
    iintro ⟨#HR, H⟩
    iexists K
    isplitr; · iexact HR
    iexact H
  rw [bigSep_sep', bigSep_sep', ← bigSep_univ_prod (fun ck : Dev nD × Fin 4 => iprop(∃ κ : ℕ, cellInv ER (plan m) κ (kcell ck))),
    bigSep_congr (s := Finset.univ) (fun (c : Dev nD) _ => bigSep_sep' Finset.univ (fun k : Fin 4 => (atPos ER (kcell (c, k)) 0 ∅ 0 : sProp 𝕄)) (fun k => reached ER (kcell (c, k)) 0)),
    bigSep_sep', ← bigSep_univ_prod (fun ck : Dev nD × Fin 4 => (reached ER (kcell ck) 0 : sProp 𝕄))]
  iintro ⟨HI, ⟨Hat, #HR⟩, Htok⟩
  ihave HK := (BI.bigSep_exists_pi Finset.univ (fun (ck : Dev nD × Fin 4) (κ : ℕ) => (cellInv ER (plan m) κ (kcell ck) : sProp 𝕄))) $$ HI
  icases HK with ⟨%K, #HI⟩
  ihave Hpay := (hand_tokens (F := F)) $$ Htok
  iapply ((sep_mono_left (BI.bigSep_of_persistent Finset.univ (records m K))).trans
    (by rw [← bigSep_sep']; exact bigSep_mono fun c _ => each K c))
  isplitr
  · unfold records
    isplitl; · iexact HI
    iexact HR
  rw [bigSep_sep']
  isplitl [Hat]; · iexact Hat
  iexact Hpay

theorem share : (bigSep Finset.univ fun c => iprop(Pipeline.ownSems0 (Ix := Unit) (Name := ℕ) (U := UU) (Lvl := ℕ) (Val := Elt F) (τ := τ) osem c ∗ unscopedSems0 c ∗ dealt m c) : sProp 𝕄)
    ⊢ |={Set.univ}=> bigSep Finset.univ (shared m) :=
  ((bigSep_mono fun c _ => share_device m c).trans (bigSep_fupd _ _)).trans (BI.fupd_mono (share_all m))

/-! ## The credit the launch gives -/

theorem cell_eq_iff (u : Unit) {a b : Dev nD} {s s' : SemLoc sig} {k : ℕ} :
    (tallyAt ((a : Thread nD τ), s) () k : CellTallies nD τ sig Unit) ((b : Thread nD τ), s') () = if b = a ∧ s' = s then k else 0 := by
  rw [tallyAt_apply]
  refine if_congr ⟨fun h => ⟨congrArg (fun g : GSem nD τ sig => g.1.1) h.1, congrArg Prod.snd h.1⟩, fun h => ⟨by rw [h.1, h.2], rfl⟩⟩ rfl rfl

theorem to_nxt (c d : Dev nD) : c = nxt d ↔ d = prv c := ⟨fun h => by rw [h, prv_nxt], fun h => by rw [h, nxt_prv]⟩
theorem to_prv (c d : Dev nD) : c = prv d ↔ d = nxt c := ⟨fun h => by rw [h, nxt_prv], fun h => by rw [h, prv_nxt]⟩

/-- What device `d` owes a cell of device `c`, at the start. -/
theorem owe0_at (d c : Dev nD) (s : SemLoc sig) : owe0 d ((c : Thread nD τ), s) () =
    (if d = prv c ∧ s = .reg endS then 1 else 0) + (if d = nxt c ∧ s = .reg endS then 1 else 0)
    + (if d = prv c ∧ s = .dma recvS then amt c else 0) + (if d = prv c ∧ s = .reg barS then 1 else 0) + (if d = nxt c ∧ s = .reg barS then 1 else 0) := by
  unfold owe0 owe1 owe2 owe3 owe4
  simp only [Pi.add_apply, Finsupp.add_apply, cell_eq_iff (), to_nxt c d, to_prv c d, Pi.zero_apply, Finsupp.zero_apply, zero_add]
  have h : (if d = prv c ∧ s = .dma recvS then amt (nxt d) else 0) = (if d = prv c ∧ s = .dma recvS then amt c else 0) := by
    by_cases hd : d = prv c
    · rw [hd, nxt_prv]
    · rw [if_neg (fun h => hd h.1), if_neg (fun h => hd h.1)]
  rw [h]

/-- One device's neighbour on one side, counted. -/
theorem sum_one (x : Dev nD) (P : Prop) [Decidable P] (k : ℕ) : (∑ d : Dev nD, if d = x ∧ P then k else 0) = if P then k else 0 := by
  by_cases h : P
  · simp only [h, and_true, if_true]; rw [Finset.sum_ite_eq' Finset.univ x fun _ => k, if_pos (Finset.mem_univ _)]
  · simp only [h, and_false, if_false, Finset.sum_const_zero]

/-- What all devices owe a cell together is what the launch gives its owner. -/
theorem credit_at (c : Dev nD) (s : SemLoc sig) :
    tallyOn ((c : Thread nD τ), s) (launchCredit (Pipeline.owing owe0) 0 ((c : Thread nD τ), s))
      = (tallyAt ((c : Thread nD τ), s) () ((if s = .reg endS then 2 else 0) + (if s = .dma recvS then amt c else 0) + (if s = .reg barS then 2 else 0))
          : CellTallies nD τ sig Unit) := by
  unfold tallyAt; refine congrArg _ (Finsupp.ext fun u => ?_); cases u
  rw [Pipeline.launchCredit_owing, Finsupp.single_eq_same, Finset.sum_congr rfl fun d _ => owe0_at d c s]
  simp only [Finset.sum_add_distrib, sum_one]
  split_ifs <;> omega

theorem credits (c : Dev nD) :
    (Pipeline.launchCred owe0 c : sProp 𝕄) ⊢ iprop(cred (tallyAt (barCell c) () 2) ∗ cred (tallyAt (endCell c) () 2) ∗ cred (tallyAt (recvCell c) () (amt c))) := by
  have hb := credit_at c (.reg barS)
  rw [if_neg end_ne_bar.symm, if_neg recv_ne_bar.symm, if_pos rfl] at hb
  have he := credit_at c (.reg endS)
  rw [if_pos rfl, if_neg recv_ne_end.symm, if_neg end_ne_bar] at he
  have hr := credit_at c (.dma recvS)
  rw [if_neg recv_ne_end, if_pos rfl, if_neg recv_ne_bar] at hr
  simp only [zero_add, add_zero] at hb he hr
  unfold Pipeline.launchCred
  rw [bigSep_univ_at _ (SemLoc.reg barS), hb]
  refine sep_mono_right ?_
  rw [BI.bigSep_erase (Finset.mem_erase.mpr ⟨end_ne_bar, Finset.mem_univ _⟩), he]
  refine sep_mono_right ?_
  rw [← hr]
  exact bigSep_elim (Finset.mem_erase.mpr ⟨recv_ne_end, Finset.mem_erase.mpr ⟨recv_ne_bar, Finset.mem_univ _⟩⟩)

/-! ## The run -/

variable (ρ : Dev nD → PrngReg)

/-- The launch: the memory it is given, counters at zero. -/
abbrev launched : MemSt nD τ sig (Elt F) := ⟨m, fun _ => 0, ρ⟩

theorem start_intro (c : Dev nD) :
    iprop(Pipeline.unscopedRestP Pipeline.Prefetch.none cfg0.spec c (fun b => m ((c : Thread nD τ).loc b)) ∗ levAts lev lvl ∗ Pipeline.launchCred owe0 c ∗ prngReg c (ρ c) ∗ shared m c)
      ⊢ |={Set.univ}=> iprop(start m c ∗ emp) := by
  iintro ⟨-, Hlev, Hcr, -, Hsh⟩
  ihave Hc := (credits (F := F) c) $$ Hcr
  icases Hc with ⟨Hb, He, Hr⟩
  imodintro
  unfold start shared
  isplitl
  · isplitl [Hsh]; · iexact Hsh
    isplitl [Hb]; · iexact Hb
    isplitl [He]; · iexact He
    isplitl [Hr]; · iexact Hr
    iexact Hlev
  · iempintro

theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = before m c from rfl, scopedRest0_eq]
  unfold before scratch
  iintro ⟨Hs, -, Hr⟩
  isplitl [Hs] <;> iassumption

theorem leave (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = done c from rfl, scopedRest0_eq, own_sems_eq, free_sems_eq]
  unfold done scratch
  iintro ⟨Hr, Hb, He, Hs, Hv⟩
  isplitl [Hb]; · iexact Hb
  isplitl [He Hs Hv]
  · isplitl [He]; · iexact He
    isplitl [Hs] <;> iassumption
  iexact Hr

/-- No staging semaphore is the receive semaphore: the pipeline's waits are at level 0. -/
theorem waits (c : Dev nD) : (levAts lev lvl : sProp 𝕄) ⊢ Pipeline.cellsWaits cfgs (dats m) () 0 c :=
  Pipeline.cellsWaits_intro cfgs (dats m) () 0 c fun w s t =>
    may_wait c _ (by
      rw [lvl_other c _ (by fin_cases w <;> fin_cases s <;> decide)]
      rcases t with ⟨_ | _, ht⟩
      · exact above_owe0 c
      · exact above_zero 0)

/-- Each window's array after the run. -/
def final (c : Dev nD) (w : Fin cfg0.W) : Buf (Elt F) ((cfg0.win w).arr.view.loc (c : Thread nD τ)) := (dats m 0 c).arrAt w cfg0.N

set_option maxRecDepth 8000 in
/-- From any memory with zero counters every weakly fair execution on the sixteen devices terminates, with every window's
    array at the computed contents and every counter at zero. -/
theorem run_main : θ_run defs (onTc (τ := τ) (main (F := F))) (launched m ρ)
    (fun r => (∀ c : Dev nD, ∀ w : Fin cfg0.W, r.2.mem ((cfg0.win w).arr.view.loc (c : Thread nD τ)) = final m c w) ∧ r.2.sem = fun _ => 0) :=
  Pipeline.θ_run_region_owing_glob_pf (fun p => (cfgs p).toPCfg) (fun p => (cfgs p).toPCfg_adm) (dats m) () cellOf_inj (0 : Fin 1)
    winFacts0.to₀ own_sems (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := full_share m)
    (hdistinct := winFacts0.arr_inj)
    (O₀ := owe0) (howed₀ := fun _ => rfl) (howedN := fun _ => rfl)
    (L := lev) (lv := lvl) (hL := lev_of_ne) (hwaits := waits m)
    (G := dealt m) (G' := shared m) (u₀ := u₀)
    (hu₀ := by
      unfold u₀
      iintro Hu
      ihave H := (ownU_pair _ _) $$ Hu
      icases H with ⟨HP, HX⟩
      imod (deal m) $$ HX with HG
      imodintro
      isplitl [HP] <;> iassumption)
    (hglob := share m)
    (hA := fun _ _ => rfl) (hpf := fun _ k => k.elim0)
    (X := start m) (Y := fun c => unscopedSems0 c) (Z := fun _ => iprop(emp))
    (hX := start_intro m ρ) (hin := enter m) (hout := leave m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The output array is what the body leaves in its buffer: the block is the array. -/
theorem final_out (c : Dev nD) : final m c (4 : Fin 5) = outAt m c :=
  (dats m 0 c).arrAt_eq_of_after_last (4 : Fin 5) t0_0 (by decide +kernel) (outAt m c) fun j => rfl

/-- From any memory with zero counters: each device's result array ends at `outAt`, its arguments as they were, and every
    counter at zero. -/
theorem run_out : θ_run defs (onTc (τ := τ) (main (F := F))) (launched m ρ)
    (fun r => (∀ c : Dev nD, r.2.mem ((c : Thread nD τ).loc main_v1) = outAt m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0) :=
  (run_main m ρ).mono fun r h => ⟨fun c => ⟨((h.1 c (4 : Fin 5)).trans (final_out m c)),
    (h.1 c (0 : Fin 5)).trans ((dats m 0 c).arrAt_in (0 : Fin 5) rfl _),
    (h.1 c (1 : Fin 5)).trans ((dats m 0 c).arrAt_in (1 : Fin 5) rfl _),
    (h.1 c (2 : Fin 5)).trans ((dats m 0 c).arrAt_in (2 : Fin 5) rfl _),
    (h.1 c (3 : Fin 5)).trans ((dats m 0 c).arrAt_in (3 : Fin 5) rfl _)⟩, h.2⟩

/-! ## The body's inputs are the arguments -/

theorem xIn_eq (c : Dev nD) : xIn m c = m ((c : Thread nD τ).loc main_arg0) :=
  funext fun i => congrArg (m ((c : Thread nD τ).loc main_arg0)) (funext fun a => Fin.ext (Pipeline.Window.rect_emb_val_of_index_zero win0_0 t0_0 a (by fin_cases a <;> decide) i))
theorem aIn_eq (c : Dev nD) : aIn m c = m ((c : Thread nD τ).loc main_arg1) :=
  funext fun i => congrArg (m ((c : Thread nD τ).loc main_arg1)) (funext fun a => Fin.ext (Pipeline.Window.rect_emb_val_of_index_zero win0_1 t0_0 a (by fin_cases a <;> decide) i))
theorem bIn_eq (c : Dev nD) : bIn m c = m ((c : Thread nD τ).loc main_arg2) :=
  funext fun i => congrArg (m ((c : Thread nD τ).loc main_arg2)) (funext fun a => Fin.ext (Pipeline.Window.rect_emb_val_of_index_zero win0_2 t0_0 a (by fin_cases a <;> decide) i))
theorem cIn_eq (c : Dev nD) : cIn m c = m ((c : Thread nD τ).loc main_arg3) :=
  funext fun i => congrArg (m ((c : Thread nD τ).loc main_arg3)) (funext fun a => Fin.ext (Pipeline.Window.rect_emb_val_of_index_zero win0_3 t0_0 a (by fin_cases a <;> decide) i))

end Cert.KernelIdeal.Chain
-- ==== Proof.Scan.lean ====
/-
The scan over the extended reals: the recursion `h ← h·a + u`, its doubling form and its closed form.

The decay `a = exp A` is at least zero and not `⊤`, so multiplication by it distributes over sums.
-/
module

public import Idealize.ShloMosaic.PureOps.Ideal
public import Idealize.ShloMosaic.Lib.IdealHost

@[expose] public section

noncomputable section

namespace Cert.Scan

open Idealize.ShloMosaic

/-! ## The decay and its powers -/

theorem decay_nonneg (A : EReal) : 0 ≤ Ideal.exp A := by
  induction A using EReal.rec with
  | bot => rw [Ideal.exp_bot]
  | coe r => rw [Ideal.exp_coe]; exact EReal.coe_nonneg.mpr (Real.exp_pos r).le
  | top => rw [Ideal.exp_top]; exact le_top

theorem decay_ne_top {A : EReal} (h : A ≠ ⊤) : Ideal.exp A ≠ ⊤ := by
  induction A using EReal.rec with
  | bot => rw [Ideal.exp_bot]; exact EReal.zero_ne_top
  | coe r => rw [Ideal.exp_coe]; exact EReal.coe_ne_top _
  | top => exact absurd rfl h

/-- The exponential of a multiple is a power of the decay. -/
theorem exp_mul {A : EReal} (h : A ≠ ⊤) (n : ℕ) : Ideal.exp (A * ((n : ℝ) : EReal)) = Ideal.exp A ^ n := by
  induction A using EReal.rec with
  | bot =>
    rcases Nat.eq_zero_or_pos n with rfl | hn
    · rw [Nat.cast_zero, EReal.coe_zero, mul_zero, pow_zero, ← EReal.coe_zero, Ideal.exp_coe, Real.exp_zero, EReal.coe_one]
    · rw [EReal.bot_mul_coe_of_pos (Nat.cast_pos.mpr hn), Ideal.exp_bot, zero_pow (by omega)]
  | coe r => rw [← EReal.coe_mul, Ideal.exp_coe, Ideal.exp_coe, ← EReal.coe_pow, mul_comm, Real.exp_nat_mul]
  | top => exact absurd rfl h

theorem pow_nonneg' {a : EReal} (h0 : 0 ≤ a) (n : ℕ) : 0 ≤ a ^ n := by
  induction n with
  | zero => rw [pow_zero]; exact zero_le_one
  | succ n ih => rw [pow_succ]; exact mul_nonneg ih h0

theorem pow_ne_top {a : EReal} (h0 : 0 ≤ a) (h1 : a ≠ ⊤) (n : ℕ) : a ^ n ≠ ⊤ := by
  induction n with
  | zero => rw [pow_zero]; exact EReal.coe_ne_top 1
  | succ n ih => rw [pow_succ]; exact EReal.mul_ne_top _ _ |>.mpr ⟨Or.inr h0, Or.inl (pow_nonneg' h0 n), Or.inl ih, Or.inr h1⟩

theorem mul_sum {a : EReal} (h0 : 0 ≤ a) (h1 : a ≠ ⊤) (n : ℕ) (f : ℕ → EReal) : a * ∑ j ∈ Finset.range n, f j = ∑ j ∈ Finset.range n, a * f j := by
  induction n with
  | zero => rw [Finset.sum_range_zero, Finset.sum_range_zero, mul_zero]
  | succ n ih => rw [Finset.sum_range_succ, Finset.sum_range_succ, EReal.left_distrib_of_nonneg_of_ne_top h0 h1, ih]

/-! ## The recursion -/

/-- The state after `n` steps from `h`. -/
def run (a : EReal) (u : ℕ → EReal) (h : EReal) : ℕ → EReal
  | 0 => h
  | n + 1 => run a u h n * a + u n

theorem run_add (a : EReal) (u : ℕ → EReal) (h : EReal) (k n : ℕ) : run a u h (k + n) = run a (fun t => u (k + t)) (run a u h k) n := by
  induction n with
  | zero => rfl
  | succ n ih => show run a u h (k + n) * a + u (k + n) = _; rw [ih]; rfl

theorem run_congr (a : EReal) (h : EReal) {u v : ℕ → EReal} (n : ℕ) (e : ∀ t < n, u t = v t) : run a u h n = run a v h n := by
  induction n with
  | zero => rfl
  | succ n ih => show run a u h n * a + u n = run a v h n * a + v n; rw [ih fun t ht => e t (Nat.lt_succ_of_lt ht), e n (Nat.lt_succ_self n)]

/-- In closed form: the inputs and the entering state, each decayed by its age. -/
theorem run_eq {a : EReal} (h0 : 0 ≤ a) (h1 : a ≠ ⊤) (u : ℕ → EReal) (h : EReal) (n : ℕ) :
    run a u h n = ∑ j ∈ Finset.range n, a ^ j * u (n - 1 - j) + a ^ n * h := by
  induction n with
  | zero => rw [Finset.sum_range_zero, pow_zero, one_mul, zero_add]; rfl
  | succ n ih =>
    show run a u h n * a + u n = _
    rw [ih, mul_comm, EReal.left_distrib_of_nonneg_of_ne_top h0 h1, mul_sum h0 h1, Finset.sum_range_succ', pow_zero, one_mul]
    have e : ∀ j ∈ Finset.range n, a * (a ^ j * u (n - 1 - j)) = a ^ (j + 1) * u (n + 1 - 1 - (j + 1)) := fun j _ => by
      rw [← mul_assoc, ← pow_succ', show n + 1 - 1 - (j + 1) = n - 1 - j by omega]
    rw [Finset.sum_congr rfl e, ← mul_assoc, ← pow_succ', Nat.add_sub_cancel, Nat.sub_zero, add_right_comm]

/-! ## The doubling form -/

/-- The last `s` inputs up to time `t`, each decayed by its age. -/
def acc (a : EReal) (u : ℕ → EReal) (s t : ℕ) : EReal := ∑ j ∈ Finset.range s, a ^ j * if j ≤ t then u (t - j) else 0

theorem acc_one (a : EReal) (u : ℕ → EReal) (t : ℕ) : acc a u 1 t = u t := by
  unfold acc; rw [Finset.sum_range_one, pow_zero, one_mul, if_pos (Nat.zero_le t), Nat.sub_zero]

theorem acc_double {a : EReal} (h0 : 0 ≤ a) (h1 : a ≠ ⊤) (u : ℕ → EReal) (s t : ℕ) :
    acc a u s t + a ^ s * (if t < s then 0 else acc a u s (t - s)) = acc a u (s + s) t := by
  unfold acc
  rw [Finset.sum_range_add]
  refine congrArg _ ?_
  by_cases hs : t < s
  · rw [if_pos hs, mul_zero]
    exact (Finset.sum_eq_zero fun j _ => by rw [if_neg (by omega), mul_zero]).symm
  · rw [if_neg hs, mul_sum (pow_nonneg' h0 s) (pow_ne_top h0 h1 s)]
    refine Finset.sum_congr rfl fun j _ => ?_
    rw [← mul_assoc, ← pow_add]
    refine congrArg _ (if_congr (by omega) (by rw [Nat.sub_sub]) rfl)

/-- Once the window covers the whole past, the doubling form and the decayed entering state are the recursion. -/
theorem run_of_acc {a : EReal} (h0 : 0 ≤ a) (h1 : a ≠ ⊤) (u : ℕ → EReal) (h : EReal) {s t : ℕ} (ht : t < s) :
    acc a u s t + a ^ (t + 1) * h = run a u h (t + 1) := by
  rw [run_eq h0 h1]
  refine congrArg (· + _) ?_
  unfold acc
  obtain ⟨d, rfl⟩ : ∃ d, s = (t + 1) + d := ⟨s - (t + 1), by omega⟩
  rw [Finset.sum_range_add, Finset.sum_eq_zero (s := Finset.range d) fun j _ => by rw [if_neg (by omega), mul_zero], add_zero]
  refine Finset.sum_congr rfl fun j hj => ?_
  rw [if_pos (Nat.lt_succ_iff.mp (Finset.mem_range.mp hj)), Nat.add_sub_cancel]

/-- The state handed on, in the order the kernel sums it. -/
theorem run_of_sum {a : EReal} (h0 : 0 ≤ a) (h1 : a ≠ ⊤) (u : ℕ → EReal) (h : EReal) (n : ℕ) :
    h * a ^ n + ∑ t ∈ Finset.range n, u t * a ^ (n - 1 - t) = run a u h n := by
  rw [run_eq h0 h1, add_comm, mul_comm h, ← Finset.sum_range_reflect]
  refine congrArg (· + _) (Finset.sum_congr rfl fun j hj => ?_)
  have := Finset.mem_range.mp hj
  rw [mul_comm, show n - 1 - (n - 1 - j) = j by omega]

end Cert.Scan

end
-- ==== Proof.KernelValue.lean ====
/-
What the kernel's values are at an index, over the ideal values: the scan by doublings and the chained states are both the
step-by-step recurrence `Cert.Scan.run` along one column (one batch, one state and one channel).
-/
module

public import proofs.«01_k».proof.Proof.Scan
public import proofs.«01_k».proof.Proof.KernelIdeal.Launch
public import Idealize.ShloMosaic.Lib.Pointwise

@[expose] public section

set_option maxRecDepth 16384

noncomputable section

namespace Cert.KernelIdeal.Value

open Cert.KernelIdeal Cert.KernelIdeal.Gen Cert.KernelIdeal.Chain Cert.Scan
open Idealize.ShloMosaic

/-! ## The constants -/

theorem c2 : Ideal.ofBits .bf16 0x4000#16 = (((2 : ℕ) : ℝ) : EReal) := by simp [Ideal.ofBits, Ideal.ieee, -EReal.coe_mul]; norm_num
theorem c4 : Ideal.ofBits .bf16 0x4080#16 = (((4 : ℕ) : ℝ) : EReal) := by simp [Ideal.ofBits, Ideal.ieee, -EReal.coe_mul]; norm_num
theorem c8 : Ideal.ofBits .bf16 0x4100#16 = (((8 : ℕ) : ℝ) : EReal) := by simp [Ideal.ofBits, Ideal.ieee, -EReal.coe_mul]; norm_num
theorem c16 : Ideal.ofBits .bf16 0x4180#16 = (((16 : ℕ) : ℝ) : EReal) := by simp [Ideal.ofBits, Ideal.ieee, -EReal.coe_mul]; norm_num
theorem c32 : Ideal.ofBits .bf16 0x4200#16 = (((32 : ℕ) : ℝ) : EReal) := by simp [Ideal.ofBits, Ideal.ieee, -EReal.coe_mul]; norm_num
theorem c64 : Ideal.ofBits .bf16 0x4280#16 = (((64 : ℕ) : ℝ) : EReal) := by simp [Ideal.ofBits, Ideal.ieee, -EReal.coe_mul]; norm_num
theorem c128 : Ideal.ofBits .bf16 0x4300#16 = (((128 : ℕ) : ℝ) : EReal) := by simp [Ideal.ofBits, Ideal.ieee, -EReal.coe_mul]
theorem c256 : Ideal.ofBits .bf16 0x4380#16 = (((256 : ℕ) : ℝ) : EReal) := by simp [Ideal.ofBits, Ideal.ieee, -EReal.coe_mul]; norm_num
theorem c255 : Ideal.ofBits .f32 0x437F0000#32 = (((255 : ℕ) : ℝ) : EReal) := by simp [Ideal.ofBits, Ideal.ieee, -EReal.coe_mul]; norm_num

/-- A row's number, as a float. -/
theorem row (t : Fin 256) : (FloatOps.sitofp .f32 (BitVec.ofNat 32 t.val) : Ideal .f32) = (((t.val : ℕ) : ℝ) : EReal) := by
  show (((BitVec.ofNat 32 t.val).toInt : ℝ) : EReal) = _
  have h : (BitVec.ofNat 32 t.val).toInt = (t.val : ℤ) := by
    have := t.isLt
    rw [BitVec.toInt_eq_toNat_of_lt (by rw [BitVec.toNat_ofNat]; omega), BitVec.toNat_ofNat]; omega
  rw [h, Int.cast_natCast]

/-- The row after it. -/
theorem row_succ (t : Fin 256) : ((FloatOps.sitofp .f32 (BitVec.ofNat 32 t.val) : Ideal .f32) : EReal) + 1 = (((t.val + 1 : ℕ) : ℝ) : EReal) := by
  rw [row t, Nat.cast_add, Nat.cast_one, EReal.coe_add, EReal.coe_one]

/-- The rows left after it. -/
theorem row_left (t : Fin 256) : (((255 : ℕ) : ℝ) : EReal) - ((FloatOps.sitofp .f32 (BitVec.ofNat 32 t.val) : Ideal .f32) : EReal) = (((256 - 1 - t.val : ℕ) : ℝ) : EReal) := by
  rw [row t, ← EReal.coe_sub, ← Nat.cast_sub (by omega : t.val ≤ 255)]

/-! ## One column of the scan -/

section Column

variable (A : FVec Ideal S16x256 .bf16) (b : Fin 4) (n : Fin 16) (d : Fin 256) (hA : A (ix2 n d) ≠ ⊤)

/-- The values along the sequence, at one batch, state and channel. -/
def col (U : FVec Ideal S256x4x16x256 .f32) (t : ℕ) : EReal := if h : t < 256 then U (ix4 ⟨t, h⟩ b n d) else 0

/-- The decay of a column. -/
def decay : EReal := Ideal.exp (A (ix2 n d))

theorem decay_nn : 0 ≤ decay A n d := decay_nonneg _

include hA

theorem decay_fin : decay A n d ≠ ⊤ := decay_ne_top hA

theorem pow_decay (k : ℕ) : Ideal.exp (A (ix2 n d) * ((k : ℝ) : EReal)) = decay A n d ^ k := exp_mul hA k

theorem pay11 (U : FVec Ideal S256x4x16x256 .f32) (t : Fin 256) :
    k0_pay11 (F := Ideal) A U (ix4 t b n d) = acc (decay A n d) (col b n d U) 2 t := by
  have e : ∀ t : Fin 256, U (ix4 t b n d) = acc (decay A n d) (col b n d U) 1 t := fun t =>
    ((acc_one _ _ _).trans (dif_pos t.isLt)).symm
  rw [← acc_double (decay_nn A n d) (decay_fin A n d hA) _ 1 t, pow_one]
  pointwise [k0_pay11]
  simp only [e, dite_eq_ite]
  rfl

theorem pay12 : k0_pay12 (F := Ideal) A (ix2 n d) = decay A n d ^ 2 := by
  rw [← pow_decay A n d hA, ← c2]
  pointwise [k0_pay12]

theorem pay13 (u : ℕ → EReal) (V : FVec Ideal S256x4x16x256 .f32) (E : FVec Ideal S16x256 .bf16)
    (hV : ∀ t : Fin 256, V (ix4 t b n d) = acc (decay A n d) u 2 t) (hE : E (ix2 n d) = decay A n d ^ 2) (t : Fin 256) :
    k0_pay13 (F := Ideal) A V E (ix4 t b n d) = acc (decay A n d) u 32 t := by
  pointwise [k0_pay13]
  simp only [hV, hE, c4, c8, c16, pow_decay A n d hA, dite_eq_ite, acc_double (decay_nn A n d) (decay_fin A n d hA), Nat.reduceAdd]

theorem pay14 (V : FVec Ideal S256x4x16x256 .f32) (E : FVec Ideal S16x256 .bf16) (u : ℕ → EReal)
    (hV : ∀ t : Fin 256, k0_pay13 (F := Ideal) A V E (ix4 t b n d) = acc (decay A n d) u 32 t) (t : Fin 256) :
    k0_pay14 (F := Ideal) A V E (ix4 t b n d) = decay A n d ^ 32 * (if t.val < 32 then 0 else acc (decay A n d) u 32 (t.val - 32)) := by
  pointwise [k0_pay14]
  simp only [hV, c32, pow_decay A n d hA, dite_eq_ite]

theorem pay10 (U : FVec Ideal S256x4x16x256 .f32) (h : FVec Ideal S1x4x16x256 .f32) :
    k0_pay10 (F := Ideal) A U h (ix4 0 b n d) = run (decay A n d) (col b n d U) (h (ix4 0 b n d)) 256 := by
  rw [← run_of_sum (decay_nn A n d) (decay_fin A n d hA) _ _ 256, Finset.sum_range]
  pointwise [k0_pay10, k0_pay9, k0_pay7]
  simp only [c255, c256, row_left, pow_decay A n d hA]
  refine congrArg _ (Finset.sum_congr rfl fun t _ => ?_)
  rw [show col b n d U t = U (ix4 t b n d) from dif_pos t.isLt]

end Column

/-- The output before it is cut into batches: the sum over the states. -/
theorem pay15 (A : FVec Ideal S16x256 .bf16) (C : FVec Ideal S4x256x16 .bf16) (h : FVec Ideal S4x16x256 .f32)
    (V W : FVec Ideal S256x4x16x256 .f32) (t : Fin 256) (b : Fin 4) (d : Fin 256) (u : Fin 16 → ℕ → EReal) (hA : ∀ n, A (ix2 n d) ≠ ⊤)
    (hV : ∀ (n : Fin 16) (t : Fin 256), V (ix4 t b n d) + W (ix4 t b n d) = acc (decay A n d) (u n) 64 t) :
    k0_pay15 (F := Ideal) A C k0_pay7 h V W (ix3 t b d)
      = ∑ n, run (decay A n d) (u n) (h (ix3 b n d)) (t.val + 1) * C (ix3 b t n) := by
  pointwise [k0_pay15, k0_pay7]
  refine Finset.sum_congr rfl fun n _ => congrArg (· * _) ?_
  rw [← run_of_acc (decay_nn A n d) (decay_fin A n d (hA n)) _ _ t.isLt]
  simp only [hV, c64, c128, row_succ, pow_decay A n d (hA n), dite_eq_ite, acc_double (decay_nn A n d) (decay_fin A n d (hA n)), Nat.reduceAdd]

/-! ## The kernel's values -/

variable (m : (ℓ : Loc nD τ sig) → Buf (Elt Ideal) ℓ)

theorem aT_at (c : Dev nD) (n : Fin 16) (d : Fin 256) : aT m c (ix2 n d) = aIn m c (ix2 d n) := by
  unfold aT
  pointwise [k0_pay4]

theorem wOut_at (c : Dev nD) (b : Fin 4) (t : Fin 256) (n : Fin 16) : wOut m c (ix3 b t n) = cIn m c (ix3 b t n) := by
  unfold wOut
  pointwise [k0_pay5]

theorem inp_at (c : Dev nD) (t : Fin 256) (b : Fin 4) (n : Fin 16) (d : Fin 256) :
    inp m c (ix4 t b n d) = xIn m c (ix3 b t d) * bIn m c (ix3 b t n) := by
  unfold inp
  pointwise [k0_pay6]

theorem outAt_at (c : Dev nD) (b : Fin 4) (t d : Fin 256) : outAt m c (ix3 b t d) = res m c (ix3 t b d) := by
  fin_cases b
  · show batch0 m c (inBatch (ix3 0 t d)) = _
    rw [eq_ix3 (inBatch (ix3 0 t d))]
    unfold batch0 res
    pointwise [k0_pay16]
    rfl
  · show batch1 m c (inBatch (ix3 1 t d)) = _
    rw [eq_ix3 (inBatch (ix3 1 t d))]
    unfold batch1 res
    pointwise [k0_pay1, k0_pay17]
    rfl
  · show batch2 m c (inBatch (ix3 2 t d)) = _
    rw [eq_ix3 (inBatch (ix3 2 t d))]
    unfold batch2
    pointwise [k0_pay2]
    rfl
  · show batch3 m c (inBatch (ix3 3 t d)) = _
    rw [eq_ix3 (inBatch (ix3 3 t d))]
    unfold batch3
    pointwise [k0_pay3]
    rfl

/-! ## The kernel's values as the recurrence -/

section Whole

variable (A : FVec Ideal S256x16 .bf16) (eA : ∀ c, aIn m c = A) (hA : ∀ d n, A (ix2 d n) ≠ ⊤)

include eA in
theorem decay_at (c : Dev nD) (n : Fin 16) (d : Fin 256) : decay (aT m c) n d = Ideal.exp (A (ix2 d n)) := by
  unfold decay; rw [aT_at, eA]

include eA hA in
theorem aT_ne (c : Dev nD) (n : Fin 16) (d : Fin 256) : aT m c (ix2 n d) ≠ ⊤ := by
  rw [aT_at, eA]; exact hA d n

/-- The kernel's own inputs are a stretch of the whole sequence's. -/
theorem col_at (c : Dev nD) (b : Fin 4) (n : Fin 16) (d : Fin 256) (U : ℕ → EReal)
    (hU : ∀ t : Fin 256, inp m c (ix4 t b n d) = U (256 * c.val + t.val)) :
    ∀ t < 256, col b n d (inp m c) t = U (256 * c.val + t) := fun t ht =>
  (dif_pos ht).trans (hU ⟨t, ht⟩)

include eA hA in
/-- The state that enters the `k`-th stretch is the recurrence's after the stretches before it. -/
theorem passed_at (b : Fin 4) (n : Fin 16) (d : Fin 256) (U : ℕ → EReal)
    (hU : ∀ (c : Dev nD) (t : Fin 256), inp m c (ix4 t b n d) = U (256 * c.val + t.val)) (k : ℕ) (hk : k ≤ 16) :
    passed m k (ix4 0 b n d) = run (Ideal.exp (A (ix2 d n))) U 0 (256 * k) := by
  induction k with
  | zero =>
    show (k0_pay8 : FVec Ideal S1x4x16x256 .f32) (ix4 0 b n d) = 0
    pointwise [k0_pay8]
  | succ k ih =>
    have hv : (dev k).val = k := Nat.mod_eq_of_lt (by omega)
    show k0_pay10 (aT m (dev k)) (inp m (dev k)) (passed m k) (ix4 0 b n d) = _
    rw [pay10 _ b n d (aT_ne m A eA hA _ n d), ih (by omega), decay_at m A eA, Nat.mul_succ, run_add]
    refine run_congr _ _ _ fun t ht => ?_
    rw [col_at m _ b n d U (hU _) t ht, hv]

include eA hA in
/-- The kernel's output: the recurrence's states, weighted and summed. -/
theorem out_at (b : Fin 4) (d : Fin 256) (U : Fin 16 → ℕ → EReal)
    (hU : ∀ (n : Fin 16) (c : Dev nD) (t : Fin 256), inp m c (ix4 t b n d) = U n (256 * c.val + t.val)) (c : Dev nD) (t : Fin 256) :
    outAt m c (ix3 b t d)
      = (∑ n, run (Ideal.exp (A (ix2 d n))) (U n) 0 (256 * c.val + t.val + 1) * cIn m c (ix3 b t n) : EReal) := by
  have hne := fun n => aT_ne m A eA hA c n d
  rw [outAt_at]
  unfold res
  rw [pay15 (aT m c) (wOut m c) _ (scanA m c) (scanB m c) t b d (fun n => col b n d (inp m c)) hne]
  · refine Finset.sum_congr (M := EReal) rfl fun n _ => ?_
    have hh : (k0_pay9 (stateIn m c) : FVec Ideal S4x16x256 .f32) (ix3 b n d) = passed m c.val (ix4 0 b n d) := by
      unfold stateIn
      pointwise [k0_pay9]
    rw [wOut_at, hh, passed_at m A eA hA b n d (U n) (hU n) c.val (le_of_lt c.isLt), decay_at m A eA, Nat.add_assoc,
      run_add _ (U n) 0 (256 * c.val) (t.val + 1)]
    refine congrArg (· * _) (run_congr _ _ _ fun t' ht => ?_)
    rw [col_at m c b n d (U n) (hU n c) t' (by have := t.isLt; omega)]
  · intro n t
    have h13 : ∀ t : Fin 256, scanA m c (ix4 t b n d) = acc (decay (aT m c) n d) (col b n d (inp m c)) 32 t :=
      pay13 (aT m c) b n d (hne n) _ _ _ (pay11 (aT m c) b n d (hne n) (inp m c)) (pay12 (aT m c) n d (hne n))
    rw [h13]
    unfold scanB
    rw [pay14 (aT m c) b n d (hne n) _ _ _ h13, acc_double (decay_nn _ n d) (decay_fin _ n d (hne n))]

end Whole

end Cert.KernelIdeal.Value

end
-- ==== Proof.RefValue.lean ====
/-
What the reference's loop computes, over the ideal values: after `k` trips the carried state is the recurrence's
(`Cert.Scan.run`) after `k` steps, and the rows below `k` of the carried output are its weighted sums.
-/
module

public import proofs.«01_k».proof.Proof.Scan
public import proofs.«01_k».proof.Proof.Gen.ReferenceIdeal.Run
public import Idealize.ShloMosaic.Lib.Pointwise
public import Idealize.ShloMosaic.Lib.Tactic.CleanTypes
public import Idealize.ShloMosaic.Lib.DynamicIndex
public import Idealize.ShloMosaic.Lib.WordCmp

@[expose] public section

set_option maxRecDepth 16384

noncomputable section

namespace Cert.ReferenceIdeal.Loop

open Cert.ReferenceIdeal Cert.ReferenceIdeal.Gen Cert.ReferenceIdeal.Value Cert.Scan
open Idealize.ShloMosaic Idealize.ShloMosaic.TcCoe Idealize.ShloMosaic.StableHlo

variable (m : (ℓ : Loc nD τ sig) → Buf (Elt Ideal) ℓ)

/-- The arguments, at their shapes. -/
def xArg (c : Dev nD) : FVec Ideal S4x4096x256 .bf16 := m ((c.tc : Thread nD τ).loc main_arg0)
def aArg (c : Dev nD) : FVec Ideal S256x16 .bf16 := m ((c.tc : Thread nD τ).loc main_arg1)
def bArg (c : Dev nD) : FVec Ideal S4x4096x16 .bf16 := m ((c.tc : Thread nD τ).loc main_arg2)
def cArg (c : Dev nD) : FVec Ideal S4x4096x16 .bf16 := m ((c.tc : Thread nD τ).loc main_arg3)

theorem entry0 (c : Dev nD) : entryContents preI m c (Proc.devRef .tc main_v11_0)
    = transpose S4096x4x256 [1, 0, 2] (extf .f32 (xArg m c) bitsLt_bf16_f32) transposes_S4x4096x256_S4096x4x256_1_0_2 := by
  simp only [entryContents, afterL_cons, afterL_nil]
  after_reads_simp
  rfl
theorem entry1 (c : Dev nD) : entryContents preI m c (Proc.devRef .tc main_v11_1)
    = transpose S4096x4x16 [1, 0, 2] (extf .f32 (bArg m c) bitsLt_bf16_f32) transposes_S4x4096x16_S4096x4x16_1_0_2 := by
  simp only [entryContents, afterL_cons, afterL_nil]
  after_reads_simp
  rfl
theorem entry2 (c : Dev nD) : entryContents preI m c (Proc.devRef .tc main_v11_2)
    = transpose S4096x4x16 [1, 0, 2] (extf .f32 (cArg m c) bitsLt_bf16_f32) transposes_S4x4096x16_S4096x4x16_1_0_2 := by
  simp only [entryContents, afterL_cons, afterL_nil]
  after_reads_simp
  rfl
theorem entry3 (c : Dev nD) : entryContents preI m c (Proc.devRef .tc main_v11_3)
    = broadcastInDim S1x256x16 ![1, 2] bcast_S256x16_S1x256x16_1_2 (Host.exp (extf .f32 (aArg m c) bitsLt_bf16_f32)) := by
  simp only [entryContents, afterL_cons, afterL_nil]
  after_reads_simp
  rfl
theorem entry5 (c : Dev nD) : entryContents preI m c (Proc.devRef .tc main_v11_5)
    = broadcastInDim S4x256x16 ![] bcast_S_S4x256x16 (constant S_ .f32 0x00000000#32 : FVec Ideal S_ .f32) := by
  simp only [entryContents, afterL_cons, afterL_nil]
  after_reads_simp
  rfl

/-! ## One trip -/

/-- The carried buffers, at their shapes. -/
def xs (V : Valuation τ sig (Elt Ideal)) : FVec Ideal S4096x4x256 .f32 := V (Proc.devRef .tc main_v11_0)
def bs (V : Valuation τ sig (Elt Ideal)) : FVec Ideal S4096x4x16 .f32 := V (Proc.devRef .tc main_v11_1)
def cs (V : Valuation τ sig (Elt Ideal)) : FVec Ideal S4096x4x16 .f32 := V (Proc.devRef .tc main_v11_2)
def da (V : Valuation τ sig (Elt Ideal)) : FVec Ideal S1x256x16 .f32 := V (Proc.devRef .tc main_v11_3)
def ctr (V : Valuation τ sig (Elt Ideal)) : IVec S_ 32 := V (Proc.devRef .tc main_v11_4)
def hs (V : Valuation τ sig (Elt Ideal)) : FVec Ideal S4x256x16 .f32 := V (Proc.devRef .tc main_v11_5)
def ys (V : Valuation τ sig (Elt Ideal)) : FVec Ideal S4096x4x256 .f32 := V (Proc.devRef .tc main_v11_6)

/-- Where a trip's slices start, as the program reads them, and as numbers. -/
abbrev start (k : Fin 4096) (j : Fin 3) : ℤ :=
  BitVec.toInt ((![fun _ => BitVec.ofNat 32 k.val, constantI S_ 32 0#32, constantI S_ 32 0#32] : Fin 3 → IVec S_ 32) j (Shape.Idx.first h_S_))

theorem start0 (k : Fin 4096) : start k 0 = (k.val : ℤ) := by
  show (BitVec.ofNat 32 k.val).toInt = _
  have := k.isLt
  rw [BitVec.toInt_eq_toNat_of_lt (by rw [BitVec.toNat_ofNat]; omega), BitVec.toNat_ofNat]; omega
theorem start1 (k : Fin 4096) : start k 1 = ((0 : ℕ) : ℤ) := rfl
theorem start2 (k : Fin 4096) : start k 2 = ((0 : ℕ) : ℤ) := rfl

theorem slice_x (X : FVec Ideal S4096x4x256 .f32) (k : Fin 4096) (b : Fin 4) (d : Fin 256) :
    Host.dynamicSlice S1x4x256 X (start k) sliceFits_S4096x4x256_S1x4x256 (ix3 0 b d) = X (ix3 k b d) := by
  have h0 := Host.clampedStart_of_le (s := S4096x4x256) (t := S1x4x256) rfl (start k) 0 _ (start0 k) k.isLt
  have h1 := Host.clampedStart_of_le (s := S4096x4x256) (t := S1x4x256) rfl (start k) 1 _ (start1 k) (Nat.le_refl 4)
  have h2 := Host.clampedStart_of_le (s := S4096x4x256) (t := S1x4x256) rfl (start k) 2 _ (start2 k) (Nat.le_refl 256)
  rw [Host.dynamicSlice_apply]
  refine congrArg X (funext fun a => ?_)
  fin_cases a
  · exact Fin.ext h0
  · exact Fin.ext ((congrArg (· + b.val) h1).trans (Nat.zero_add _))
  · exact Fin.ext ((congrArg (· + d.val) h2).trans (Nat.zero_add _))

theorem slice_w (X : FVec Ideal S4096x4x16 .f32) (k : Fin 4096) (b : Fin 4) (n : Fin 16) :
    Host.dynamicSlice S1x4x16 X (start k) sliceFits_S4096x4x16_S1x4x16 (ix3 0 b n) = X (ix3 k b n) := by
  have h0 := Host.clampedStart_of_le (s := S4096x4x16) (t := S1x4x16) rfl (start k) 0 _ (start0 k) k.isLt
  have h1 := Host.clampedStart_of_le (s := S4096x4x16) (t := S1x4x16) rfl (start k) 1 _ (start1 k) (Nat.le_refl 4)
  have h2 := Host.clampedStart_of_le (s := S4096x4x16) (t := S1x4x16) rfl (start k) 2 _ (start2 k) (Nat.le_refl 16)
  rw [Host.dynamicSlice_apply]
  refine congrArg X (funext fun a => ?_)
  fin_cases a
  · exact Fin.ext h0
  · exact Fin.ext ((congrArg (· + b.val) h1).trans (Nat.zero_add _))
  · exact Fin.ext ((congrArg (· + n.val) h2).trans (Nat.zero_add _))

/-- A trip writes its own row of the output and no other. -/
theorem update_y (Y : FVec Ideal S4096x4x256 .f32) (R : FVec Ideal S1x4x256 .f32) (k t : Fin 4096) (b : Fin 4) (d : Fin 256) :
    Host.dynamicUpdateSlice Y R (start k) updateFits_S4096x4x256_S1x4x256 (ix3 t b d) = if t = k then R (ix3 0 b d) else Y (ix3 t b d) := by
  have h0 := Host.clampedStart_of_le (s := S4096x4x256) (t := S1x4x256) rfl (start k) 0 _ (start0 k) k.isLt
  have h1 := Host.clampedStart_of_le (s := S4096x4x256) (t := S1x4x256) rfl (start k) 1 _ (start1 k) (Nat.le_refl 4)
  have h2 := Host.clampedStart_of_le (s := S4096x4x256) (t := S1x4x256) rfl (start k) 2 _ (start2 k) (Nat.le_refl 256)
  rw [Host.dynamicUpdateSlice_apply]
  by_cases e : t = k
  · subst e
    have hin : ∀ a : Fin S4096x4x256.rank, Host.clampedStart S4096x4x256 S1x4x256 rfl (start t) a ≤ (ix3 t b d a).val
        ∧ (ix3 t b d a).val < Host.clampedStart S4096x4x256 S1x4x256 rfl (start t) a + S1x4x256.size a := by
      intro a
      fin_cases a
      · exact ⟨le_of_eq h0, (Nat.lt_succ_self t.val).trans_eq (congrArg (· + 1) h0.symm)⟩
      · exact ⟨(le_of_eq h1).trans (Nat.zero_le _), Nat.lt_of_lt_of_le b.isLt (Nat.le_add_left _ _)⟩
      · exact ⟨(le_of_eq h2).trans (Nat.zero_le _), Nat.lt_of_lt_of_le d.isLt (Nat.le_add_left _ _)⟩
    rw [if_pos rfl]
    refine (dif_pos hin).trans (congrArg R (funext fun a => ?_))
    fin_cases a
    · exact Fin.ext ((congrArg (t.val - ·) h0).trans (Nat.sub_self _))
    · exact Fin.ext ((congrArg (b.val - ·) h1).trans (Nat.sub_zero _))
    · exact Fin.ext ((congrArg (d.val - ·) h2).trans (Nat.sub_zero _))
  · rw [if_neg e]
    refine dif_neg fun hin => e (Fin.ext ?_)
    have h := hin 0
    have h' : k.val ≤ t.val ∧ t.val < k.val + 1 := ⟨(le_of_eq h0.symm).trans h.1, h.2.trans_eq (congrArg (· + 1) h0)⟩
    omega

theorem hs_step (V : Valuation τ sig (Elt Ideal)) (k : Fin 4096) (hk : ctr V = fun _ => BitVec.ofNat 32 k.val) (b : Fin 4) (d : Fin 256) (n : Fin 16) :
    hs (STEP V) (ix3 b d n) = hs V (ix3 b d n) * da V (ix3 0 d n) + xs V (ix3 k b d) * bs V (ix3 k b n) := by
  have hx := slice_x (xs V) k
  have hb := slice_w (bs V) k
  unfold hs
  rw [STEP_main_v11_5]
  unfold step_main_v11_5 res_main_while0b_v23
  rw [show V (Proc.devRef .tc main_v11_4) = fun _ => BitVec.ofNat 32 k.val from hk,
    show V (Proc.devRef .tc main_v11_0) = xs V from rfl,
    show V (Proc.devRef .tc main_v11_1) = bs V from rfl,
    show V (Proc.devRef .tc main_v11_3) = da V from rfl,
    show V (Proc.devRef .tc main_v11_5) = hs V from rfl]
  clean_types
  rw [id_eq]
  generalize Host.dynamicSlice S1x4x256 (xs V) (start k) sliceFits_S4096x4x256_S1x4x256 = X at hx ⊢
  generalize Host.dynamicSlice S1x4x16 (bs V) (start k) sliceFits_S4096x4x16_S1x4x16 = B at hb ⊢
  pointwise []
  rw [hx, hb]

theorem ys_step (V : Valuation τ sig (Elt Ideal)) (k : Fin 4096) (hk : ctr V = fun _ => BitVec.ofNat 32 k.val) (t : Fin 4096) (b : Fin 4) (d : Fin 256) :
    ys (STEP V) (ix3 t b d) = if t = k then ∑ n, hs (STEP V) (ix3 b d n) * cs V (ix3 k b n) else ys V (ix3 t b d) := by
  have hc := slice_w (cs V) k
  unfold hs ys
  rw [STEP_main_v11_6, STEP_main_v11_5]
  unfold step_main_v11_6 step_main_v11_5
  rw [id_eq, id_eq]
  generalize res_main_while0b_v23 V = H
  rw [show V (Proc.devRef .tc main_v11_4) = fun _ => BitVec.ofNat 32 k.val from hk,
    show V (Proc.devRef .tc main_v11_2) = cs V from rfl,
    show V (Proc.devRef .tc main_v11_6) = ys V from rfl]
  clean_types
  refine (update_y (ys V) _ k t b d).trans (if_congr Iff.rfl ?_ rfl)
  generalize Host.dynamicSlice S1x4x16 (cs V) (start k) sliceFits_S4096x4x16_S1x4x16 = C at hc ⊢
  pointwise []
  simp only [hc]

/-! ## All the trips -/

/-- The loop's contents after `k` trips. -/
abbrev after (c : Dev nD) (k : ℕ) : Valuation τ sig (Elt Ideal) := STEP^[k] (entryContents preI m c)

theorem after_succ (c : Dev nD) (k : ℕ) : after m c (k + 1) = STEP (after m c k) := Function.iterate_succ_apply' _ _ _

theorem xs_after (c : Dev nD) (k : ℕ) : xs (after m c k) = transpose S4096x4x256 [1, 0, 2] (extf .f32 (xArg m c) bitsLt_bf16_f32) transposes_S4x4096x256_S4096x4x256_1_0_2 := by
  induction k with
  | zero => exact entry0 m c
  | succ k ih => rw [after_succ, ← ih]; exact STEP_main_v11_0 _
theorem bs_after (c : Dev nD) (k : ℕ) : bs (after m c k) = transpose S4096x4x16 [1, 0, 2] (extf .f32 (bArg m c) bitsLt_bf16_f32) transposes_S4x4096x16_S4096x4x16_1_0_2 := by
  induction k with
  | zero => exact entry1 m c
  | succ k ih => rw [after_succ, ← ih]; exact STEP_main_v11_1 _
theorem cs_after (c : Dev nD) (k : ℕ) : cs (after m c k) = transpose S4096x4x16 [1, 0, 2] (extf .f32 (cArg m c) bitsLt_bf16_f32) transposes_S4x4096x16_S4096x4x16_1_0_2 := by
  induction k with
  | zero => exact entry2 m c
  | succ k ih => rw [after_succ, ← ih]; exact STEP_main_v11_2 _
theorem da_after (c : Dev nD) (k : ℕ) : da (after m c k) = broadcastInDim S1x256x16 ![1, 2] bcast_S256x16_S1x256x16_1_2 (Host.exp (extf .f32 (aArg m c) bitsLt_bf16_f32)) := by
  induction k with
  | zero => exact entry3 m c
  | succ k ih => rw [after_succ, ← ih]; exact STEP_main_v11_3 _
theorem ctr_after (c : Dev nD) (k : ℕ) : ctr (after m c k) = fun _ => BitVec.ofNat 32 k := by
  induction k with
  | zero => exact ctr_entry m c
  | succ k ih =>
    rw [after_succ]
    refine (STEP_main_v11_4 _).trans ?_
    unfold step_main_v11_4
    rw [show after m c k (Proc.devRef .tc main_v11_4) = fun _ => BitVec.ofNat 32 k from ih]
    clean_types
    rw [id_eq]
    funext i
    show BitVec.ofNat 32 k + 1#32 = _
    rw [BitVec.ofNat_add]

theorem xs_at (c : Dev nD) (k : ℕ) (t : Fin 4096) (b : Fin 4) (d : Fin 256) : xs (after m c k) (ix3 t b d) = xArg m c (ix3 b t d) := by
  rw [xs_after]; pointwise []
theorem bs_at (c : Dev nD) (k : ℕ) (t : Fin 4096) (b : Fin 4) (n : Fin 16) : bs (after m c k) (ix3 t b n) = bArg m c (ix3 b t n) := by
  rw [bs_after]; pointwise []
theorem cs_at (c : Dev nD) (k : ℕ) (t : Fin 4096) (b : Fin 4) (n : Fin 16) : cs (after m c k) (ix3 t b n) = cArg m c (ix3 b t n) := by
  rw [cs_after]; pointwise []
theorem da_at (c : Dev nD) (k : ℕ) (d : Fin 256) (n : Fin 16) : da (after m c k) (ix3 0 d n) = Ideal.exp (aArg m c (ix2 d n)) := by
  rw [da_after]; pointwise []

/-- The whole sequence's inputs at one batch, state and channel. -/
def feed (c : Dev nD) (b : Fin 4) (d : Fin 256) (n : Fin 16) (t : ℕ) : EReal :=
  if h : t < 4096 then xArg m c (ix3 b ⟨t, h⟩ d) * bArg m c (ix3 b ⟨t, h⟩ n) else 0

/-- After `k` trips the carried state is the recurrence's. -/
theorem hs_at (c : Dev nD) (b : Fin 4) (d : Fin 256) (n : Fin 16) (k : ℕ) (hk : k ≤ 4096) :
    hs (after m c k) (ix3 b d n) = run (Ideal.exp (aArg m c (ix2 d n))) (feed m c b d n) 0 k := by
  induction k with
  | zero =>
    show hs (entryContents preI m c) (ix3 b d n) = 0
    unfold hs
    rw [entry5]
    pointwise []
  | succ k ih =>
    rw [after_succ, hs_step _ ⟨k, hk⟩ (ctr_after m c k), ih (Nat.le_of_lt hk), da_at, xs_at, bs_at]
    show _ = run _ _ _ k * _ + feed m c b d n k
    rw [show feed m c b d n k = _ from dif_pos (show k < 4096 from hk)]

/-- After `k` trips the rows below `k` of the carried output are done. -/
theorem ys_at (c : Dev nD) (b : Fin 4) (d : Fin 256) (t : Fin 4096) (k : ℕ) (ht : t.val < k) (hk : k ≤ 4096) :
    ys (after m c k) (ix3 t b d)
      = ∑ n, run (Ideal.exp (aArg m c (ix2 d n))) (feed m c b d n) 0 (t.val + 1) * cArg m c (ix3 b t n) := by
  induction k with
  | zero => exact absurd ht (Nat.not_lt_zero _)
  | succ k ih =>
    rw [after_succ, ys_step _ ⟨k, hk⟩ (ctr_after m c k)]
    by_cases e : t = ⟨k, hk⟩
    · rw [if_pos e]
      refine Finset.sum_congr rfl fun n _ => ?_
      rw [← after_succ, hs_at m c b d n (k + 1) hk, cs_at, e]
    · rw [if_neg e]
      refine ih ?_ (Nat.le_of_lt hk)
      have : t.val ≠ k := fun h => e (Fin.ext h)
      omega

/-- The reference's result, at its shape. -/
def out (c : Dev nD) : FVec Ideal S4x4096x256 .f32 := out_main_v12 (after m c 4096)

theorem out_at (c : Dev nD) (b : Fin 4) (t : Fin 4096) (d : Fin 256) :
    out m c (ix3 b t d)
      = ∑ n, run (Ideal.exp (aArg m c (ix2 d n))) (feed m c b d n) 0 (t.val + 1) * cArg m c (ix3 b t n) := by
  rw [← ys_at m c b d t 4096 t.isLt (Nat.le_refl _)]
  unfold out out_main_v12
  rw [show after m c 4096 (Proc.devRef .tc main_v11_6) = ys (after m c 4096) from rfl]
  generalize ys (after m c 4096) = Y
  clean_types
  pointwise []

end Cert.ReferenceIdeal.Loop

end
-- ==== Proof.Equation.lean ====
/-
The kernel's output on every device is its block of the reference's, when every entry of `A` is below `+∞`.
-/
module

public import proofs.«01_k».proof.Proof.KernelValue
public import proofs.«01_k».proof.Proof.RefValue
public import proofs.«01_k».proof.Pre_below_top_KernelIdeal
public import proofs.«01_k».proof.Pre_below_top_ReferenceIdeal
public import Idealize.ShloMosaic.Lib.Layout
public import Idealize.ShloMosaic.Lib.ReduceAll

@[expose] public section

set_option maxRecDepth 16384

noncomputable section

namespace Cert.Equation

open Idealize.ShloMosaic Idealize.ShloMosaic.TcCoe
open Cert.Scan

instance kernelFacts : Cert.Pre_below_top_KernelIdeal.Facts := ⟨by decide, by decide, by decide, by decide⟩
instance referenceFacts : Cert.Pre_below_top_ReferenceIdeal.Facts := ⟨by decide, by decide, by decide, by decide⟩

/-- The precondition says that no entry of `A` is `+∞`. -/
theorem below_top (x : FVec Ideal ⟨3, ![4, 256, 256]⟩ .bf16) (A : FVec Ideal ⟨2, ![256, 16]⟩ .bf16) (B C : FVec Ideal ⟨3, ![4, 256, 16]⟩ .bf16)
    (h : Cert.Pre_below_top_KernelIdeal.fn (F := Ideal) x A B C = fun _ => 1#1) (d : Fin 256) (n : Fin 16) : A (ix2 d n) ≠ ⊤ := by
  have : Subsingleton Cert.Pre_below_top_KernelIdeal.S_.Idx := ⟨fun a b => funext fun i => i.elim0⟩
  have e := Host.reduce_andi_all _ _ _ _ _ (congrFun h (fun i => i.elim0)) (ix2 d n)
  pointwise [] at e
  intro hT
  rw [hT, decide_eq_false not_top_lt] at e
  exact absurd e (by decide)

section

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

open Cert.KernelIdeal.Chain Cert.ReferenceIdeal.Loop

/-- Where a block's position lies in the whole sequence. -/
def place (c : Fin 16) (t : Fin 256) : Fin 4096 := ⟨256 * c.val + t.val, by have := c.isLt; have := t.isLt; omega⟩

theorem block_at {α : Type} {w : ℕ} (c : Fin 16) (v : (⟨3, ![4, 4096, w]⟩ : Shape).Idx → α) (h : Layout.Tiles ⟨3, ![4, 256, w]⟩ ⟨3, ![4, 4096, w]⟩ 1 16)
    (b : Fin 4) (t : Fin 256) (d : Fin w) :
    Layout.block ⟨3, ![4, 256, w]⟩ ⟨3, ![4, 4096, w]⟩ 1 16 c v h (ix3 b t d) = v (ix3 b (place c t) d) := by
  refine congrArg v (funext fun a => ?_)
  fin_cases a
  · rfl
  · exact Fin.ext (congrArg (· + t.val) (Nat.mul_comm _ _))
  · rfl

theorem out_block
    (h0 : ∀ (c : Fin 16) b t d, xIn m c (ix3 b t d) = xArg m' 0 (ix3 b (place c t) d))
    (h1 : ∀ c, aIn m c = aArg m' 0)
    (h2 : ∀ (c : Fin 16) b t n, bIn m c (ix3 b t n) = bArg m' 0 (ix3 b (place c t) n))
    (h3 : ∀ (c : Fin 16) b t n, cIn m c (ix3 b t n) = cArg m' 0 (ix3 b (place c t) n))
    (hA : ∀ d n, aArg m' 0 (ix2 d n) ≠ ⊤) (c : Fin 16) :
    outAt m c = Layout.block ⟨3, ![4, 256, 256]⟩ ⟨3, ![4, 4096, 256]⟩ 1 16 c (out m' 0) (by decide) := by
  funext j
  have key : ∀ (b : Fin 4) (t d : Fin 256), outAt m c (ix3 b t d) = out m' 0 (ix3 b (place c t) d) := by
    intro b t d
    rw [Cert.ReferenceIdeal.Loop.out_at]
    rw [Cert.KernelIdeal.Value.out_at m (aArg m' 0) h1 hA b d (fun n => feed m' 0 b d n) ?_ c t]
    · exact Finset.sum_congr (M := EReal) rfl fun n _ => congrArg (_ * ·) (h3 c b t n)
    · intro n c t
      rw [Cert.KernelIdeal.Value.inp_at, h0, h2]
      have hlt : 256 * c.val + t.val < 4096 := (place c t).isLt
      show _ = feed m' 0 b d n (256 * c.val + t.val)
      unfold feed
      rw [dif_pos hlt]
      rfl
  show (fun i => outAt m c i) j = _
  idx_vars j
  exact (key _ _ _).trans (block_at c _ _ _ _ _).symm

end

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Launch
public import proofs.«01_k».proof.Proof.KernelIdeal.Launch
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem
open Cert.Equation Cert.KernelIdeal.Chain Cert.ReferenceIdeal.Loop

/-- The kernel's frame, at the machine's own floats. -/
theorem frame_Kernel : Cert.quiescent_Kernel := fun m g _ =>
  (θ_run _ _ _).mono (fun _ h => ⟨fun c => (h.1 c).2, h.2⟩) (Cert.Kernel.Chain.run_out m g)

/-- The kernel's frame, at the ideal values. -/
theorem frame_KernelIdeal : Cert.quiescent_KernelIdeal := fun m g _ =>
  (θ_run _ _ _).mono (fun _ h => ⟨fun c => (h.1 c).2, h.2⟩) (Cert.KernelIdeal.Chain.run_out m g)

/-- The reference's frame: it declares no semaphore. -/
theorem frame_ReferenceIdeal : Cert.quiescent_ReferenceIdeal := fun m g _ =>
  (θ_run _ _ _).mono (fun r h => ⟨fun c => (h c).2, sem_eq_zero_of_no_sems rfl r.2⟩) (Cert.ReferenceIdeal.Value.run m g)

/-- On every device the kernel's output is its block of the reference's. -/
theorem same_values : Cert.algebraic_KernelIdeal_ReferenceIdeal_pre_below_top_KernelIdeal := by
  intro m g m' g' hpre hargs
  refine ⟨Cert.ReferenceIdeal.Loop.out m' 0,
    (θ_run _ _ _).mono (fun r h c => ⟨(h.1 c).1.trans ?_, (h.1 c).2⟩) (Cert.KernelIdeal.Chain.run_out m g),
    (θ_run _ _ _).mono (fun r h => h 0) (Cert.ReferenceIdeal.Value.run m' g')⟩
  refine out_block m m' ?_ ?_ ?_ ?_ ?_ c
  · intro c b t d
    rw [xIn_eq]
    exact (congrFun (hargs c).1 _).trans (block_at c _ _ b t d)
  · intro c
    rw [aIn_eq]
    exact (hargs c).2.1
  · intro c b t n
    rw [bIn_eq]
    exact (congrFun (hargs c).2.2.1 _).trans (block_at c _ _ b t n)
  · intro c b t n
    rw [cIn_eq]
    exact (congrFun (hargs c).2.2.2 _).trans (block_at c _ _ b t n)
  · intro d n
    unfold aArg
    rw [← (hargs 0).2.1]
    exact below_top _ _ _ _ (hpre 0) d n

theorem claim : Cert.Claim :=
  ⟨Cert.Kernel.Gen.facts, Cert.KernelIdeal.Gen.facts, Cert.ReferenceIdeal.Gen.facts, kernelFacts, referenceFacts,
    frame_Kernel, frame_KernelIdeal, fun m g _ => frame_KernelIdeal m g trivial, frame_ReferenceIdeal,
    fun m g _ => frame_ReferenceIdeal m g trivial, trivial, same_values⟩

end Cert.Proof

end
